-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_ok [hPre_inputs_ok : Cert.Pre_inputs_ok.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_ok [hPre_inputs_ok : Cert.Pre_inputs_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_inputs_ok [hKernelIdeal : Cert.KernelIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_inputs_ok [hReferenceIdeal : Cert.ReferenceIdeal.Facts] [hPre_inputs_ok : Cert.Pre_inputs_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "inv_ln2" .f32 0x3FB8AA3B#32 (((Real.log 2)⁻¹ : ℝ) : EReal)

def algebraic_KernelIdeal_ReferenceIdeal_pre_inputs_ok [hKernelIdeal : Cert.KernelIdeal.Facts] [hReferenceIdeal : Cert.ReferenceIdeal.Facts] [hPre_inputs_ok : Cert.Pre_inputs_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v410) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_inputs_ok : Cert.Pre_inputs_ok.Facts),
    quiescent_Kernel (hKernel := hKernel)
    ∧ quiescent_KernelIdeal (hKernelIdeal := hKernelIdeal)
    ∧ quiescent_KernelIdeal_pre_inputs_ok (hKernelIdeal := hKernelIdeal) (hPre_inputs_ok := hPre_inputs_ok)
    ∧ quiescent_ReferenceIdeal (hReferenceIdeal := hReferenceIdeal)
    ∧ quiescent_ReferenceIdeal_pre_inputs_ok (hReferenceIdeal := hReferenceIdeal) (hPre_inputs_ok := hPre_inputs_ok)
    ∧ preserves_Kernel_KernelIdeal
    ∧ algebraic_KernelIdeal_ReferenceIdeal_pre_inputs_ok (hKernelIdeal := hKernelIdeal) (hReferenceIdeal := hReferenceIdeal) (hPre_inputs_ok := hPre_inputs_ok)
-- ==== Pre_inputs_ok.lean ====
abbrev S16384x1000 : Shape := ⟨2, ![16384, 1000]⟩
abbrev S16384 : Shape := ⟨1, ![16384]⟩
abbrev S_ : Shape := ⟨0, ![]⟩

class Facts : Prop where
  reducesTo_S16384x1000_S16384_d1 : S16384x1000.ReducesTo [1] S16384
  h_S_ : 0 < S_.numel
  bcast_S_S16384 : S_.BroadcastsInDim S16384 (![] : Fin 0 → Fin S16384.rank)
  reducesTo_S16384_S_d0 : S16384.ReducesTo [0] S_

variable [Facts]

def fn {F : FTy → Type} [FloatOps F] (main_arg0 : FVec F S16384x1000 .f32) (main_arg1 : IVec S16384 32) : IVec S_ 1 :=
  let main_cst : FVec F S_ .f32 := constant S_ .f32 0xFF800000#32
  let main_v0 : FVec F S16384 .f32 := (fun x v => Host.reduce FloatOps.maximumf x v reducesTo_S16384x1000_S16384_d1 h_S_) main_arg0 main_cst
  let main_cst_0 : FVec F S_ .f32 := constant S_ .f32 0xFF800000#32
  let main_v1 : FVec F S16384 .f32 := broadcastInDim S16384 ![] bcast_S_S16384 main_cst_0
  let main_v2 : IVec S16384 1 := cmpf .ogt main_v0 main_v1
  let main_cst_1 : FVec F S_ .f32 := constant S_ .f32 0x7F800000#32
  let main_v3 : FVec F S16384 .f32 := broadcastInDim S16384 ![] bcast_S_S16384 main_cst_1
  let main_v4 : IVec S16384 1 := cmpf .olt main_v0 main_v3
  let main_v5 : IVec S16384 1 := andi main_v2 main_v4
  let main_c : IVec S_ 1 := constantI S_ 1 1#1
  let main_v6 : IVec S_ 1 := (fun x v => Host.reduce IntOp.andi x v reducesTo_S16384_S_d0 h_S_) main_v5 main_c
  let main_c_2 : IVec S_ 32 := constantI S_ 32 0#32
  let main_v7 : IVec S16384 32 := broadcastInDim S16384 ![] bcast_S_S16384 main_c_2
  let main_v8 : IVec S16384 1 := cmpi .sge main_arg1 main_v7
  let main_c_3 : IVec S_ 32 := constantI S_ 32 1000#32
  let main_v9 : IVec S16384 32 := broadcastInDim S16384 ![] bcast_S_S16384 main_c_3
  let main_v10 : IVec S16384 1 := cmpi .slt main_arg1 main_v9
  let main_v11 : IVec S16384 1 := andi main_v8 main_v10
  let main_c_4 : IVec S_ 1 := constantI S_ 1 1#1
  let main_v12 : IVec S_ 1 := (fun x v => Host.reduce IntOp.andi x v reducesTo_S16384_S_d0 h_S_) main_v11 main_c_4
  let main_v13 : IVec S_ 1 := andi main_v6 main_v12
  main_v13
-- ==== Kernel.lean ====
abbrev S16384x1000 : Shape := ⟨2, ![16384, 1000]⟩
abbrev S16384 : Shape := ⟨1, ![16384]⟩
abbrev S1000x16384 : Shape := ⟨2, ![1000, 16384]⟩
abbrev S1x16384 : Shape := ⟨2, ![1, 16384]⟩
abbrev S1x1 : Shape := ⟨2, ![1, 1]⟩
abbrev S1000x2048 : Shape := ⟨2, ![1000, 2048]⟩
abbrev S1x2048 : Shape := ⟨2, ![1, 2048]⟩
abbrev S128x128 : Shape := ⟨2, ![128, 128]⟩
abbrev S8x2048 : Shape := ⟨2, ![8, 2048]⟩
abbrev S2048 : Shape := ⟨1, ![2048]⟩
abbrev S16x128 : Shape := ⟨2, ![16, 128]⟩
abbrev S128x127 : Shape := ⟨2, ![128, 127]⟩
abbrev S128x1 : Shape := ⟨2, ![128, 1]⟩
abbrev S128x126 : Shape := ⟨2, ![128, 126]⟩
abbrev S128x2 : Shape := ⟨2, ![128, 2]⟩
abbrev S128x124 : Shape := ⟨2, ![128, 124]⟩
abbrev S128x4 : Shape := ⟨2, ![128, 4]⟩
abbrev S128x120 : Shape := ⟨2, ![128, 120]⟩
abbrev S128x8 : Shape := ⟨2, ![128, 8]⟩
abbrev S128x112 : Shape := ⟨2, ![128, 112]⟩
abbrev S128x16 : Shape := ⟨2, ![128, 16]⟩
abbrev S128x96 : Shape := ⟨2, ![128, 96]⟩
abbrev S128x32 : Shape := ⟨2, ![128, 32]⟩
abbrev S128x64 : Shape := ⟨2, ![128, 64]⟩
abbrev S127x128 : Shape := ⟨2, ![127, 128]⟩
abbrev S1x128 : Shape := ⟨2, ![1, 128]⟩
abbrev S126x128 : Shape := ⟨2, ![126, 128]⟩
abbrev S2x128 : Shape := ⟨2, ![2, 128]⟩
abbrev S124x128 : Shape := ⟨2, ![124, 128]⟩
abbrev S4x128 : Shape := ⟨2, ![4, 128]⟩
abbrev S120x128 : Shape := ⟨2, ![120, 128]⟩
abbrev S8x128 : Shape := ⟨2, ![8, 128]⟩
abbrev S112x128 : Shape := ⟨2, ![112, 128]⟩
abbrev S96x128 : Shape := ⟨2, ![96, 128]⟩
abbrev S32x128 : Shape := ⟨2, ![32, 128]⟩
abbrev S64x128 : Shape := ⟨2, ![64, 128]⟩
abbrev S1x128x128 : Shape := ⟨3, ![1, 128, 128]⟩
abbrev S1 : Shape := ⟨1, ![1]⟩
abbrev S1x1x1 : Shape := ⟨3, ![1, 1, 1]⟩
abbrev S_ : Shape := ⟨0, ![]⟩

abbrev nBuf : Space → Nat
  | .hbm => 6
  | .vmem => 7
  | .smem => 0
  | _ => 0

abbrev bufTy : (tb : Table) → Fin (tcTables nBuf tb) → BufTy
  | .hbm, ⟨0, _⟩ => ⟨S16384x1000, .f32⟩
  | .hbm, ⟨1, _⟩ => ⟨S16384, .i32⟩
  | .hbm, ⟨2, _⟩ => ⟨S1000x16384, .f32⟩
  | .hbm, ⟨3, _⟩ => ⟨S1x16384, .i32⟩
  | .hbm, ⟨4, _⟩ => ⟨S1x1, .f32⟩
  | .hbm, ⟨5, _⟩ => ⟨S_, .f32⟩
  | .local _ .vmem, ⟨0, _⟩ => ⟨S1000x2048, .f32⟩
  | .local _ .vmem, ⟨1, _⟩ => ⟨S1000x2048, .f32⟩
  | .local _ .vmem, ⟨2, _⟩ => ⟨S1x2048, .i32⟩
  | .local _ .vmem, ⟨3, _⟩ => ⟨S1x2048, .i32⟩
  | .local _ .vmem, ⟨4, _⟩ => ⟨S1x1, .f32⟩
  | .local _ .vmem, ⟨5, _⟩ => ⟨S128x128, .f32⟩
  | .local _ .vmem, ⟨6, _⟩ => ⟨S128x128, .f32⟩
  | _, _ => ⟨S16384x1000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨1, ![8], ![false]⟩

def k0_off1 (i : grid0.Coords) : Fin 2 → Nat :=
  let arg0 : BitVec 32 := BitVec.ofNat 32 (i 0).val
  let c16_i32_512 : BitVec 32 := 16#32
  let v2400 : BitVec 32 := Scalar.muli arg0 c16_i32_512
  let v2401 : Index := Scalar.indexCast v2400
  let c0_513 : Index := 0#32
  ![v2401.toNat, 0]
def k0_cond1 (i : grid0.Coords) : BitVec 1 :=
  let arg0 : BitVec 32 := BitVec.ofNat 32 (i 0).val
  let c7_i32 : BitVec 32 := 7#32
  let v2411 : BitVec 1 := Scalar.cmpi .eq arg0 c7_i32
  let v2412 : BitVec 32 := Scalar.extui v2411
  let c0_i32_516 : BitVec 32 := 0#32
  let v2413 : BitVec 1 := Scalar.cmpi .ne v2412 c0_i32_516
  v2413

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1000x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== KernelIdeal.lean ====
variable {F : FTy → Type} [FloatOps F] [Named F]
def κ : String → Option EReal := fun
  | "inv_ln2" => some (((Real.log 2)⁻¹ : ℝ) : EReal)
  | _ => none
-- ==== ReferenceIdeal.lean ====
abbrev S16384x1000 : Shape := ⟨2, ![16384, 1000]⟩
abbrev S16384 : Shape := ⟨1, ![16384]⟩
abbrev S16 : Shape := ⟨1, ![16]⟩
abbrev S_ : Shape := ⟨0, ![]⟩
abbrev S16384x1 : Shape := ⟨2, ![16384, 1]⟩
abbrev S16384x2 : Shape := ⟨2, ![16384, 2]⟩
abbrev S16x1 : Shape := ⟨2, ![16, 1]⟩
abbrev S1 : Shape := ⟨1, ![1]⟩
abbrev S15 : Shape := ⟨1, ![15]⟩

abbrev nBuf : Space → Nat
  | .hbm => 612
  | .vmem => 0
  | .smem => 0
  | _ => 0

abbrev hbmTy0_0 (i : Nat) : BufTy := match i % 128 with
  | 0 => ⟨S16384x1000, .f32⟩
  | 1 => ⟨S16384, .i32⟩
  | 2 => ⟨S16, .f32⟩
  | 3 => ⟨S_, .f32⟩
  | 4 => ⟨S16384, .f32⟩
  | 5 => ⟨S_, .f32⟩
  | 6 => ⟨S16384, .f32⟩
  | 7 => ⟨S16384, .f32⟩
  | 8 => ⟨S16384x1, .f32⟩
  | 9 => ⟨S16384x1000, .f32⟩
  | 10 => ⟨S16384x1000, .f32⟩
  | 11 => ⟨S16384x1000, .f32⟩
  | 12 => ⟨S_, .f32⟩
  | 13 => ⟨S16384, .f32⟩
  | 14 => ⟨S16384x1, .f32⟩
  | 15 => ⟨S16384x1000, .f32⟩
  | 16 => ⟨S16384x1000, .f32⟩
  | 17 => ⟨S16384x1000, .f32⟩
  | 18 => ⟨S_, .f32⟩
  | 19 => ⟨S16384, .f32⟩
  | 20 => ⟨S_, .f32⟩
  | 21 => ⟨S16384, .f32⟩
  | 22 => ⟨S16384, .f32⟩
  | 23 => ⟨S16384, .f32⟩
  | 24 => ⟨S_, .f32⟩
  | 25 => ⟨S_, .f32⟩
  | 26 => ⟨S_, .f32⟩
  | 27 => ⟨S16384, .f32⟩
  | 28 => ⟨S16384, .f32⟩
  | 29 => ⟨S16384, .f32⟩
  | 30 => ⟨S16384, .i32⟩
  | 31 => ⟨S_, .i32⟩
  | 32 => ⟨S16384, .i32⟩
  | 33 => ⟨S16384, .i1⟩
  | 34 => ⟨S_, .i32⟩
  | 35 => ⟨S16384, .i32⟩
  | 36 => ⟨S16384, .i32⟩
  | 37 => ⟨S16384, .i32⟩
  | 38 => ⟨S_, .i32⟩
  | 39 => ⟨S16384, .i32⟩
  | 40 => ⟨S16384, .i1⟩
  | 41 => ⟨S_, .i32⟩
  | 42 => ⟨S16384, .i32⟩
  | 43 => ⟨S16384, .i32⟩
  | 44 => ⟨S16384, .i32⟩
  | 45 => ⟨S16384x1, .i32⟩
  | 46 => ⟨S16384x1, .i32⟩
  | 47 => ⟨S16384x2, .i32⟩
  | 48 => ⟨S16384, .f32⟩
  | 49 => ⟨S_, .f32⟩
  | 50 => ⟨S16384, .f32⟩
  | 51 => ⟨S16384, .f32⟩
  | 52 => ⟨S16, .f32⟩
  | 53 => ⟨S16, .f32⟩
  | 54 => ⟨S16, .f32⟩
  | 55 => ⟨S_, .f32⟩
  | 56 => ⟨S16, .f32⟩
  | 57 => ⟨S16, .f32⟩
  | 58 => ⟨S16384, .f32⟩
  | 59 => ⟨S16, .i32⟩
  | 60 => ⟨S_, .i32⟩
  | 61 => ⟨S16, .i32⟩
  | 62 => ⟨S16, .i1⟩
  | 63 => ⟨S_, .i32⟩
  | 64 => ⟨S16, .i32⟩
  | 65 => ⟨S16, .i32⟩
  | 66 => ⟨S16, .i32⟩
  | 67 => ⟨S16x1, .i32⟩
  | 68 => ⟨S16, .f32⟩
  | 69 => ⟨S16, .f32⟩
  | 70 => ⟨S16, .i32⟩
  | 71 => ⟨S_, .i32⟩
  | 72 => ⟨S16, .i32⟩
  | 73 => ⟨S16, .i1⟩
  | 74 => ⟨S_, .i32⟩
  | 75 => ⟨S16, .i32⟩
  | 76 => ⟨S16, .i32⟩
  | 77 => ⟨S16, .i32⟩
  | 78 => ⟨S16x1, .i32⟩
  | 79 => ⟨S16, .f32⟩
  | 80 => ⟨S16, .f32⟩
  | 81 => ⟨S16, .f32⟩
  | 82 => ⟨S1, .f32⟩
  | 83 => ⟨S_, .f32⟩
  | 84 => ⟨S1, .f32⟩
  | 85 => ⟨S_, .f32⟩
  | 86 => ⟨S16384, .f32⟩
  | 87 => ⟨S16384, .i1⟩
  | 88 => ⟨S16384, .f32⟩
  | 89 => ⟨S16384, .i1⟩
  | 90 => ⟨S16384, .i1⟩
  | 91 => ⟨S16384, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S16384, .f32⟩
  | 99 => ⟨S16384, .f32⟩
  | 100 => ⟨S_, .f32⟩
  | 101 => ⟨S_, .f32⟩
  | 102 => ⟨S_, .f32⟩
  | 103 => ⟨S_, .f32⟩
  | 104 => ⟨S_, .f32⟩
  | 105 => ⟨S16384, .f32⟩
  | 106 => ⟨S16384, .f32⟩
  | 107 => ⟨S_, .f32⟩
  | 108 => ⟨S_, .f32⟩
  | 109 => ⟨S_, .f32⟩
  | 110 => ⟨S_, .f32⟩
  | 111 => ⟨S_, .i1⟩
  | 112 => ⟨S_, .f32⟩
  | 113 => ⟨S_, .f32⟩
  | 114 => ⟨S_, .f32⟩
  | 115 => ⟨S_, .f32⟩
  | 116 => ⟨S1, .f32⟩
  | 117 => ⟨S_, .f32⟩
  | 118 => ⟨S1, .f32⟩
  | 119 => ⟨S_, .f32⟩
  | 120 => ⟨S16384, .f32⟩
  | 121 => ⟨S16384, .i1⟩
  | 122 => ⟨S16384, .f32⟩
  | 123 => ⟨S16384, .i1⟩
  | 124 => ⟨S16384, .i1⟩
  | 125 => ⟨S16384, .f32⟩
  | 126 => ⟨S_, .f32⟩
  | 127 => ⟨S_, .f32⟩
  | _ => ⟨S16384x1000, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S16384, .f32⟩
  | 5 => ⟨S16384, .f32⟩
  | 6 => ⟨S_, .f32⟩
  | 7 => ⟨S_, .f32⟩
  | 8 => ⟨S_, .f32⟩
  | 9 => ⟨S_, .f32⟩
  | 10 => ⟨S_, .f32⟩
  | 11 => ⟨S16384, .f32⟩
  | 12 => ⟨S16384, .f32⟩
  | 13 => ⟨S_, .f32⟩
  | 14 => ⟨S_, .f32⟩
  | 15 => ⟨S_, .f32⟩
  | 16 => ⟨S_, .f32⟩
  | 17 => ⟨S_, .i1⟩
  | 18 => ⟨S_, .f32⟩
  | 19 => ⟨S_, .f32⟩
  | 20 => ⟨S_, .f32⟩
  | 21 => ⟨S_, .f32⟩
  | 22 => ⟨S1, .f32⟩
  | 23 => ⟨S_, .f32⟩
  | 24 => ⟨S1, .f32⟩
  | 25 => ⟨S_, .f32⟩
  | 26 => ⟨S16384, .f32⟩
  | 27 => ⟨S16384, .i1⟩
  | 28 => ⟨S16384, .f32⟩
  | 29 => ⟨S16384, .i1⟩
  | 30 => ⟨S16384, .i1⟩
  | 31 => ⟨S16384, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S16384, .f32⟩
  | 39 => ⟨S16384, .f32⟩
  | 40 => ⟨S_, .f32⟩
  | 41 => ⟨S_, .f32⟩
  | 42 => ⟨S_, .f32⟩
  | 43 => ⟨S_, .f32⟩
  | 44 => ⟨S_, .f32⟩
  | 45 => ⟨S16384, .f32⟩
  | 46 => ⟨S16384, .f32⟩
  | 47 => ⟨S_, .f32⟩
  | 48 => ⟨S_, .f32⟩
  | 49 => ⟨S_, .f32⟩
  | 50 => ⟨S_, .f32⟩
  | 51 => ⟨S_, .i1⟩
  | 52 => ⟨S_, .f32⟩
  | 53 => ⟨S_, .f32⟩
  | 54 => ⟨S_, .f32⟩
  | 55 => ⟨S_, .f32⟩
  | 56 => ⟨S1, .f32⟩
  | 57 => ⟨S_, .f32⟩
  | 58 => ⟨S1, .f32⟩
  | 59 => ⟨S_, .f32⟩
  | 60 => ⟨S16384, .f32⟩
  | 61 => ⟨S16384, .i1⟩
  | 62 => ⟨S16384, .f32⟩
  | 63 => ⟨S16384, .i1⟩
  | 64 => ⟨S16384, .i1⟩
  | 65 => ⟨S16384, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S16384, .f32⟩
  | 73 => ⟨S16384, .f32⟩
  | 74 => ⟨S_, .f32⟩
  | 75 => ⟨S_, .f32⟩
  | 76 => ⟨S_, .f32⟩
  | 77 => ⟨S_, .f32⟩
  | 78 => ⟨S_, .f32⟩
  | 79 => ⟨S16384, .f32⟩
  | 80 => ⟨S16384, .f32⟩
  | 81 => ⟨S_, .f32⟩
  | 82 => ⟨S_, .f32⟩
  | 83 => ⟨S_, .f32⟩
  | 84 => ⟨S_, .f32⟩
  | 85 => ⟨S_, .i1⟩
  | 86 => ⟨S_, .f32⟩
  | 87 => ⟨S_, .f32⟩
  | 88 => ⟨S_, .f32⟩
  | 89 => ⟨S_, .f32⟩
  | 90 => ⟨S1, .f32⟩
  | 91 => ⟨S_, .f32⟩
  | 92 => ⟨S1, .f32⟩
  | 93 => ⟨S_, .f32⟩
  | 94 => ⟨S16384, .f32⟩
  | 95 => ⟨S16384, .i1⟩
  | 96 => ⟨S16384, .f32⟩
  | 97 => ⟨S16384, .i1⟩
  | 98 => ⟨S16384, .i1⟩
  | 99 => ⟨S16384, .f32⟩
  | 100 => ⟨S_, .f32⟩
  | 101 => ⟨S_, .f32⟩
  | 102 => ⟨S_, .f32⟩
  | 103 => ⟨S_, .f32⟩
  | 104 => ⟨S_, .f32⟩
  | 105 => ⟨S_, .f32⟩
  | 106 => ⟨S16384, .f32⟩
  | 107 => ⟨S16384, .f32⟩
  | 108 => ⟨S_, .f32⟩
  | 109 => ⟨S_, .f32⟩
  | 110 => ⟨S_, .f32⟩
  | 111 => ⟨S_, .f32⟩
  | 112 => ⟨S_, .f32⟩
  | 113 => ⟨S16384, .f32⟩
  | 114 => ⟨S16384, .f32⟩
  | 115 => ⟨S_, .f32⟩
  | 116 => ⟨S_, .f32⟩
  | 117 => ⟨S_, .f32⟩
  | 118 => ⟨S_, .f32⟩
  | 119 => ⟨S_, .i1⟩
  | 120 => ⟨S_, .f32⟩
  | 121 => ⟨S_, .f32⟩
  | 122 => ⟨S_, .f32⟩
  | 123 => ⟨S_, .f32⟩
  | 124 => ⟨S1, .f32⟩
  | 125 => ⟨S_, .f32⟩
  | 126 => ⟨S1, .f32⟩
  | 127 => ⟨S_, .f32⟩
  | _ => ⟨S16384x1000, .f32⟩

abbrev hbmTy0_2 (i : Nat) : BufTy := match i % 128 with
  | 0 => ⟨S16384, .f32⟩
  | 1 => ⟨S16384, .i1⟩
  | 2 => ⟨S16384, .f32⟩
  | 3 => ⟨S16384, .i1⟩
  | 4 => ⟨S16384, .i1⟩
  | 5 => ⟨S16384, .f32⟩
  | 6 => ⟨S_, .f32⟩
  | 7 => ⟨S_, .f32⟩
  | 8 => ⟨S_, .f32⟩
  | 9 => ⟨S_, .f32⟩
  | 10 => ⟨S_, .f32⟩
  | 11 => ⟨S_, .f32⟩
  | 12 => ⟨S16384, .f32⟩
  | 13 => ⟨S16384, .f32⟩
  | 14 => ⟨S_, .f32⟩
  | 15 => ⟨S_, .f32⟩
  | 16 => ⟨S_, .f32⟩
  | 17 => ⟨S_, .f32⟩
  | 18 => ⟨S_, .f32⟩
  | 19 => ⟨S16384, .f32⟩
  | 20 => ⟨S16384, .f32⟩
  | 21 => ⟨S_, .f32⟩
  | 22 => ⟨S_, .f32⟩
  | 23 => ⟨S_, .f32⟩
  | 24 => ⟨S_, .f32⟩
  | 25 => ⟨S_, .i1⟩
  | 26 => ⟨S_, .f32⟩
  | 27 => ⟨S_, .f32⟩
  | 28 => ⟨S_, .f32⟩
  | 29 => ⟨S_, .f32⟩
  | 30 => ⟨S1, .f32⟩
  | 31 => ⟨S_, .f32⟩
  | 32 => ⟨S1, .f32⟩
  | 33 => ⟨S_, .f32⟩
  | 34 => ⟨S16384, .f32⟩
  | 35 => ⟨S16384, .i1⟩
  | 36 => ⟨S16384, .f32⟩
  | 37 => ⟨S16384, .i1⟩
  | 38 => ⟨S16384, .i1⟩
  | 39 => ⟨S16384, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S16384, .f32⟩
  | 47 => ⟨S16384, .f32⟩
  | 48 => ⟨S_, .f32⟩
  | 49 => ⟨S_, .f32⟩
  | 50 => ⟨S_, .f32⟩
  | 51 => ⟨S_, .f32⟩
  | 52 => ⟨S_, .f32⟩
  | 53 => ⟨S16384, .f32⟩
  | 54 => ⟨S16384, .f32⟩
  | 55 => ⟨S_, .f32⟩
  | 56 => ⟨S_, .f32⟩
  | 57 => ⟨S_, .f32⟩
  | 58 => ⟨S_, .f32⟩
  | 59 => ⟨S_, .i1⟩
  | 60 => ⟨S_, .f32⟩
  | 61 => ⟨S_, .f32⟩
  | 62 => ⟨S_, .f32⟩
  | 63 => ⟨S_, .f32⟩
  | 64 => ⟨S1, .f32⟩
  | 65 => ⟨S_, .f32⟩
  | 66 => ⟨S1, .f32⟩
  | 67 => ⟨S_, .f32⟩
  | 68 => ⟨S16384, .f32⟩
  | 69 => ⟨S16384, .i1⟩
  | 70 => ⟨S16384, .f32⟩
  | 71 => ⟨S16384, .i1⟩
  | 72 => ⟨S16384, .i1⟩
  | 73 => ⟨S16384, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S16384, .f32⟩
  | 81 => ⟨S16384, .f32⟩
  | 82 => ⟨S_, .f32⟩
  | 83 => ⟨S_, .f32⟩
  | 84 => ⟨S_, .f32⟩
  | 85 => ⟨S_, .f32⟩
  | 86 => ⟨S_, .f32⟩
  | 87 => ⟨S16384, .f32⟩
  | 88 => ⟨S16384, .f32⟩
  | 89 => ⟨S_, .f32⟩
  | 90 => ⟨S_, .f32⟩
  | 91 => ⟨S_, .f32⟩
  | 92 => ⟨S_, .f32⟩
  | 93 => ⟨S_, .i1⟩
  | 94 => ⟨S_, .f32⟩
  | 95 => ⟨S_, .f32⟩
  | 96 => ⟨S_, .f32⟩
  | 97 => ⟨S_, .f32⟩
  | 98 => ⟨S1, .f32⟩
  | 99 => ⟨S_, .f32⟩
  | 100 => ⟨S1, .f32⟩
  | 101 => ⟨S_, .f32⟩
  | 102 => ⟨S16384, .f32⟩
  | 103 => ⟨S16384, .i1⟩
  | 104 => ⟨S16384, .f32⟩
  | 105 => ⟨S16384, .i1⟩
  | 106 => ⟨S16384, .i1⟩
  | 107 => ⟨S16384, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S16384, .f32⟩
  | 115 => ⟨S16384, .f32⟩
  | 116 => ⟨S_, .f32⟩
  | 117 => ⟨S_, .f32⟩
  | 118 => ⟨S_, .f32⟩
  | 119 => ⟨S_, .f32⟩
  | 120 => ⟨S_, .f32⟩
  | 121 => ⟨S16384, .f32⟩
  | 122 => ⟨S16384, .f32⟩
  | 123 => ⟨S_, .f32⟩
  | 124 => ⟨S_, .f32⟩
  | 125 => ⟨S_, .f32⟩
  | 126 => ⟨S_, .f32⟩
  | 127 => ⟨S_, .i1⟩
  | _ => ⟨S16384x1000, .f32⟩

abbrev hbmTy0_3 (i : Nat) : BufTy := match i % 128 with
  | 0 => ⟨S_, .f32⟩
  | 1 => ⟨S_, .f32⟩
  | 2 => ⟨S_, .f32⟩
  | 3 => ⟨S_, .f32⟩
  | 4 => ⟨S1, .f32⟩
  | 5 => ⟨S_, .f32⟩
  | 6 => ⟨S1, .f32⟩
  | 7 => ⟨S_, .f32⟩
  | 8 => ⟨S16384, .f32⟩
  | 9 => ⟨S16384, .i1⟩
  | 10 => ⟨S16384, .f32⟩
  | 11 => ⟨S16384, .i1⟩
  | 12 => ⟨S16384, .i1⟩
  | 13 => ⟨S16384, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S16384, .f32⟩
  | 21 => ⟨S16384, .f32⟩
  | 22 => ⟨S_, .f32⟩
  | 23 => ⟨S_, .f32⟩
  | 24 => ⟨S_, .f32⟩
  | 25 => ⟨S_, .f32⟩
  | 26 => ⟨S_, .f32⟩
  | 27 => ⟨S16384, .f32⟩
  | 28 => ⟨S16384, .f32⟩
  | 29 => ⟨S_, .f32⟩
  | 30 => ⟨S_, .f32⟩
  | 31 => ⟨S_, .f32⟩
  | 32 => ⟨S_, .f32⟩
  | 33 => ⟨S_, .i1⟩
  | 34 => ⟨S_, .f32⟩
  | 35 => ⟨S_, .f32⟩
  | 36 => ⟨S_, .f32⟩
  | 37 => ⟨S_, .f32⟩
  | 38 => ⟨S1, .f32⟩
  | 39 => ⟨S_, .f32⟩
  | 40 => ⟨S1, .f32⟩
  | 41 => ⟨S_, .f32⟩
  | 42 => ⟨S16384, .f32⟩
  | 43 => ⟨S16384, .i1⟩
  | 44 => ⟨S16384, .f32⟩
  | 45 => ⟨S16384, .i1⟩
  | 46 => ⟨S16384, .i1⟩
  | 47 => ⟨S16384, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S16384, .f32⟩
  | 55 => ⟨S16384, .f32⟩
  | 56 => ⟨S_, .f32⟩
  | 57 => ⟨S_, .f32⟩
  | 58 => ⟨S_, .f32⟩
  | 59 => ⟨S_, .f32⟩
  | 60 => ⟨S_, .f32⟩
  | 61 => ⟨S16384, .f32⟩
  | 62 => ⟨S16384, .f32⟩
  | 63 => ⟨S_, .f32⟩
  | 64 => ⟨S_, .f32⟩
  | 65 => ⟨S_, .f32⟩
  | 66 => ⟨S_, .f32⟩
  | 67 => ⟨S_, .i1⟩
  | 68 => ⟨S_, .f32⟩
  | 69 => ⟨S_, .f32⟩
  | 70 => ⟨S_, .f32⟩
  | 71 => ⟨S_, .f32⟩
  | 72 => ⟨S1, .f32⟩
  | 73 => ⟨S_, .f32⟩
  | 74 => ⟨S1, .f32⟩
  | 75 => ⟨S_, .f32⟩
  | 76 => ⟨S16384, .f32⟩
  | 77 => ⟨S16384, .i1⟩
  | 78 => ⟨S16384, .f32⟩
  | 79 => ⟨S16384, .i1⟩
  | 80 => ⟨S16384, .i1⟩
  | 81 => ⟨S16384, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S16384, .f32⟩
  | 89 => ⟨S16384, .f32⟩
  | 90 => ⟨S_, .f32⟩
  | 91 => ⟨S_, .f32⟩
  | 92 => ⟨S_, .f32⟩
  | 93 => ⟨S_, .f32⟩
  | 94 => ⟨S_, .f32⟩
  | 95 => ⟨S16384, .f32⟩
  | 96 => ⟨S16384, .f32⟩
  | 97 => ⟨S_, .f32⟩
  | 98 => ⟨S_, .f32⟩
  | 99 => ⟨S_, .f32⟩
  | 100 => ⟨S_, .f32⟩
  | 101 => ⟨S_, .i1⟩
  | 102 => ⟨S_, .f32⟩
  | 103 => ⟨S_, .f32⟩
  | 104 => ⟨S_, .f32⟩
  | 105 => ⟨S_, .f32⟩
  | 106 => ⟨S1, .f32⟩
  | 107 => ⟨S_, .f32⟩
  | 108 => ⟨S1, .f32⟩
  | 109 => ⟨S_, .f32⟩
  | 110 => ⟨S16384, .f32⟩
  | 111 => ⟨S16384, .i1⟩
  | 112 => ⟨S16384, .f32⟩
  | 113 => ⟨S16384, .i1⟩
  | 114 => ⟨S16384, .i1⟩
  | 115 => ⟨S16384, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S16384, .f32⟩
  | 123 => ⟨S16384, .f32⟩
  | 124 => ⟨S_, .f32⟩
  | 125 => ⟨S_, .f32⟩
  | 126 => ⟨S_, .f32⟩
  | 127 => ⟨S_, .f32⟩
  | _ => ⟨S16384x1000, .f32⟩

abbrev hbmTy0_4 (i : Nat) : BufTy := match i % 128 with
  | 0 => ⟨S_, .f32⟩
  | 1 => ⟨S16384, .f32⟩
  | 2 => ⟨S16384, .f32⟩
  | 3 => ⟨S_, .f32⟩
  | 4 => ⟨S_, .f32⟩
  | 5 => ⟨S_, .f32⟩
  | 6 => ⟨S_, .f32⟩
  | 7 => ⟨S_, .i1⟩
  | 8 => ⟨S_, .f32⟩
  | 9 => ⟨S_, .f32⟩
  | 10 => ⟨S_, .f32⟩
  | 11 => ⟨S_, .f32⟩
  | 12 => ⟨S1, .f32⟩
  | 13 => ⟨S_, .f32⟩
  | 14 => ⟨S1, .f32⟩
  | 15 => ⟨S_, .f32⟩
  | 16 => ⟨S16384, .f32⟩
  | 17 => ⟨S16384, .i1⟩
  | 18 => ⟨S16384, .f32⟩
  | 19 => ⟨S16384, .i1⟩
  | 20 => ⟨S16384, .i1⟩
  | 21 => ⟨S16384, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S16384, .f32⟩
  | 29 => ⟨S16384, .f32⟩
  | 30 => ⟨S_, .f32⟩
  | 31 => ⟨S_, .f32⟩
  | 32 => ⟨S_, .f32⟩
  | 33 => ⟨S_, .f32⟩
  | 34 => ⟨S_, .f32⟩
  | 35 => ⟨S16384, .f32⟩
  | 36 => ⟨S16384, .f32⟩
  | 37 => ⟨S_, .f32⟩
  | 38 => ⟨S_, .f32⟩
  | 39 => ⟨S_, .f32⟩
  | 40 => ⟨S_, .f32⟩
  | 41 => ⟨S_, .i1⟩
  | 42 => ⟨S_, .f32⟩
  | 43 => ⟨S_, .f32⟩
  | 44 => ⟨S_, .f32⟩
  | 45 => ⟨S_, .f32⟩
  | 46 => ⟨S1, .f32⟩
  | 47 => ⟨S_, .f32⟩
  | 48 => ⟨S1, .f32⟩
  | 49 => ⟨S_, .f32⟩
  | 50 => ⟨S16384, .f32⟩
  | 51 => ⟨S16384, .i1⟩
  | 52 => ⟨S16384, .f32⟩
  | 53 => ⟨S16384, .i1⟩
  | 54 => ⟨S16384, .i1⟩
  | 55 => ⟨S16384, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S16384, .f32⟩
  | 63 => ⟨S16384, .f32⟩
  | 64 => ⟨S_, .f32⟩
  | 65 => ⟨S_, .f32⟩
  | 66 => ⟨S_, .f32⟩
  | 67 => ⟨S_, .f32⟩
  | 68 => ⟨S_, .f32⟩
  | 69 => ⟨S16384, .f32⟩
  | 70 => ⟨S16384, .f32⟩
  | 71 => ⟨S_, .f32⟩
  | 72 => ⟨S_, .f32⟩
  | 73 => ⟨S_, .f32⟩
  | 74 => ⟨S_, .f32⟩
  | 75 => ⟨S_, .i1⟩
  | 76 => ⟨S_, .f32⟩
  | 77 => ⟨S_, .f32⟩
  | 78 => ⟨S_, .f32⟩
  | 79 => ⟨S_, .f32⟩
  | 80 => ⟨S1, .f32⟩
  | 81 => ⟨S1, .f32⟩
  | 82 => ⟨S1, .f32⟩
  | 83 => ⟨S1, .f32⟩
  | 84 => ⟨S1, .f32⟩
  | 85 => ⟨S1, .f32⟩
  | 86 => ⟨S1, .f32⟩
  | 87 => ⟨S1, .f32⟩
  | 88 => ⟨S1, .f32⟩
  | 89 => ⟨S1, .f32⟩
  | 90 => ⟨S1, .f32⟩
  | 91 => ⟨S1, .f32⟩
  | 92 => ⟨S1, .f32⟩
  | 93 => ⟨S1, .f32⟩
  | 94 => ⟨S1, .f32⟩
  | 95 => ⟨S15, .f32⟩
  | 96 => ⟨S_, .f32⟩
  | 97 => ⟨S_, .f32⟩
  | 98 => ⟨S_, .f32⟩
  | 99 => ⟨S_, .f32⟩
  | _ => ⟨S16384x1000, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S16384x1000, .f32⟩

abbrev bufTy : (tb : Table) → Fin (tcTables nBuf tb) → BufTy
  | .hbm, ⟨i, _⟩ => hbmTy i
  | _, _ => ⟨S16384x1000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_c : Ref sig .tc := ⟨.hbm, 31, rfl⟩
abbrev main_v22 : Ref sig .tc := ⟨.hbm, 32, rfl⟩
abbrev main_v23 : Ref sig .tc := ⟨.hbm, 33, rfl⟩
abbrev main_c_6 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c_7 : Ref sig .tc := ⟨.hbm, 38, rfl⟩
abbrev main_v27 : Ref sig .tc := ⟨.hbm, 39, rfl⟩
abbrev main_v28 : Ref sig .tc := ⟨.hbm, 40, rfl⟩
abbrev main_c_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_10 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_11 : Ref sig .tc := ⟨.hbm, 60, rfl⟩
abbrev main_v45 : Ref sig .tc := ⟨.hbm, 61, rfl⟩
abbrev main_v46 : Ref sig .tc := ⟨.hbm, 62, rfl⟩
abbrev main_c_12 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_c_13 : Ref sig .tc := ⟨.hbm, 71, rfl⟩
abbrev main_v54 : Ref sig .tc := ⟨.hbm, 72, rfl⟩
abbrev main_v55 : Ref sig .tc := ⟨.hbm, 73, rfl⟩
abbrev main_c_14 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_cst_15 : Ref sig .tc := ⟨.hbm, 92, rfl⟩
abbrev main_v73 : Ref sig .tc := ⟨.hbm, 93, rfl⟩
abbrev main_cst_16 : Ref sig .tc := ⟨.hbm, 94, rfl⟩
abbrev main_v74 : Ref sig .tc := ⟨.hbm, 95, rfl⟩
abbrev main_cst_17 : Ref sig .tc := ⟨.hbm, 96, rfl⟩
abbrev main_call1_v0 : Ref sig .tc := ⟨.hbm, 97, rfl⟩
abbrev main_call1_v1 : Ref sig .tc := ⟨.hbm, 98, rfl⟩
abbrev main_v75 : Ref sig .tc := ⟨.hbm, 99, rfl⟩
abbrev main_cst_18 : Ref sig .tc := ⟨.hbm, 100, rfl⟩
abbrev main_v76 : Ref sig .tc := ⟨.hbm, 101, rfl⟩
abbrev main_v77 : Ref sig .tc := ⟨.hbm, 102, rfl⟩
abbrev main_cst_19 : Ref sig .tc := ⟨.hbm, 103, rfl⟩
abbrev main_call2_v0 : Ref sig .tc := ⟨.hbm, 104, rfl⟩
abbrev main_call2_v1 : Ref sig .tc := ⟨.hbm, 105, rfl⟩
abbrev main_v78 : Ref sig .tc := ⟨.hbm, 106, rfl⟩
abbrev main_cst_20 : Ref sig .tc := ⟨.hbm, 107, rfl⟩
abbrev main_v79 : Ref sig .tc := ⟨.hbm, 108, rfl⟩
abbrev main_v80 : Ref sig .tc := ⟨.hbm, 109, rfl⟩
abbrev main_cst_21 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_cst_22 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_23 : Ref sig .tc := ⟨.hbm, 126, rfl⟩
abbrev main_v95 : Ref sig .tc := ⟨.hbm, 127, rfl⟩
abbrev main_cst_24 : Ref sig .tc := ⟨.hbm, 128, rfl⟩
abbrev main_v96 : Ref sig .tc := ⟨.hbm, 129, rfl⟩
abbrev main_cst_25 : Ref sig .tc := ⟨.hbm, 130, rfl⟩
abbrev main_call4_v0 : Ref sig .tc := ⟨.hbm, 131, rfl⟩
abbrev main_call4_v1 : Ref sig .tc := ⟨.hbm, 132, rfl⟩
abbrev main_v97 : Ref sig .tc := ⟨.hbm, 133, rfl⟩
abbrev main_cst_26 : Ref sig .tc := ⟨.hbm, 134, rfl⟩
abbrev main_v98 : Ref sig .tc := ⟨.hbm, 135, rfl⟩
abbrev main_v99 : Ref sig .tc := ⟨.hbm, 136, rfl⟩
abbrev main_cst_27 : Ref sig .tc := ⟨.hbm, 137, rfl⟩
abbrev main_call5_v0 : Ref sig .tc := ⟨.hbm, 138, rfl⟩
abbrev main_call5_v1 : Ref sig .tc := ⟨.hbm, 139, rfl⟩
abbrev main_v100 : Ref sig .tc := ⟨.hbm, 140, rfl⟩
abbrev main_cst_28 : Ref sig .tc := ⟨.hbm, 141, rfl⟩
abbrev main_v101 : Ref sig .tc := ⟨.hbm, 142, rfl⟩
abbrev main_v102 : Ref sig .tc := ⟨.hbm, 143, rfl⟩
abbrev main_cst_29 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_cst_30 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩
abbrev main_v116 : Ref sig .tc := ⟨.hbm, 159, rfl⟩
abbrev main_cst_31 : Ref sig .tc := ⟨.hbm, 160, rfl⟩
abbrev main_v117 : Ref sig .tc := ⟨.hbm, 161, rfl⟩
abbrev main_cst_32 : Ref sig .tc := ⟨.hbm, 162, rfl⟩
abbrev main_v118 : Ref sig .tc := ⟨.hbm, 163, rfl⟩
abbrev main_cst_33 : Ref sig .tc := ⟨.hbm, 164, rfl⟩
abbrev main_call7_v0 : Ref sig .tc := ⟨.hbm, 165, rfl⟩
abbrev main_call7_v1 : Ref sig .tc := ⟨.hbm, 166, rfl⟩
abbrev main_v119 : Ref sig .tc := ⟨.hbm, 167, rfl⟩
abbrev main_cst_34 : Ref sig .tc := ⟨.hbm, 168, rfl⟩
abbrev main_v120 : Ref sig .tc := ⟨.hbm, 169, rfl⟩
abbrev main_v121 : Ref sig .tc := ⟨.hbm, 170, rfl⟩
abbrev main_cst_35 : Ref sig .tc := ⟨.hbm, 171, rfl⟩
abbrev main_call8_v0 : Ref sig .tc := ⟨.hbm, 172, rfl⟩
abbrev main_call8_v1 : Ref sig .tc := ⟨.hbm, 173, rfl⟩
abbrev main_v122 : Ref sig .tc := ⟨.hbm, 174, rfl⟩
abbrev main_cst_36 : Ref sig .tc := ⟨.hbm, 175, rfl⟩
abbrev main_v123 : Ref sig .tc := ⟨.hbm, 176, rfl⟩
abbrev main_v124 : Ref sig .tc := ⟨.hbm, 177, rfl⟩
abbrev main_cst_37 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_cst_38 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_v137 : Ref sig .tc := ⟨.hbm, 192, rfl⟩
abbrev main_v138 : Ref sig .tc := ⟨.hbm, 193, rfl⟩
abbrev main_cst_39 : Ref sig .tc := ⟨.hbm, 194, rfl⟩
abbrev main_v139 : Ref sig .tc := ⟨.hbm, 195, rfl⟩
abbrev main_cst_40 : Ref sig .tc := ⟨.hbm, 196, rfl⟩
abbrev main_v140 : Ref sig .tc := ⟨.hbm, 197, rfl⟩
abbrev main_cst_41 : Ref sig .tc := ⟨.hbm, 198, rfl⟩
abbrev main_call10_v0 : Ref sig .tc := ⟨.hbm, 199, rfl⟩
abbrev main_call10_v1 : Ref sig .tc := ⟨.hbm, 200, rfl⟩
abbrev main_v141 : Ref sig .tc := ⟨.hbm, 201, rfl⟩
abbrev main_cst_42 : Ref sig .tc := ⟨.hbm, 202, rfl⟩
abbrev main_v142 : Ref sig .tc := ⟨.hbm, 203, rfl⟩
abbrev main_v143 : Ref sig .tc := ⟨.hbm, 204, rfl⟩
abbrev main_cst_43 : Ref sig .tc := ⟨.hbm, 205, rfl⟩
abbrev main_call11_v0 : Ref sig .tc := ⟨.hbm, 206, rfl⟩
abbrev main_call11_v1 : Ref sig .tc := ⟨.hbm, 207, rfl⟩
abbrev main_v144 : Ref sig .tc := ⟨.hbm, 208, rfl⟩
abbrev main_cst_44 : Ref sig .tc := ⟨.hbm, 209, rfl⟩
abbrev main_v145 : Ref sig .tc := ⟨.hbm, 210, rfl⟩
abbrev main_v146 : Ref sig .tc := ⟨.hbm, 211, rfl⟩
abbrev main_cst_45 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_cst_46 : Ref sig .tc := ⟨.hbm, 216, rfl⟩
abbrev main_v150 : Ref sig .tc := ⟨.hbm, 217, rfl⟩
abbrev main_v151 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_v155 : Ref sig .tc := ⟨.hbm, 222, rfl⟩
abbrev main_v156 : Ref sig .tc := ⟨.hbm, 223, rfl⟩
abbrev main_v157 : Ref sig .tc := ⟨.hbm, 224, rfl⟩
abbrev main_v158 : Ref sig .tc := ⟨.hbm, 225, rfl⟩
abbrev main_v159 : Ref sig .tc := ⟨.hbm, 226, rfl⟩
abbrev main_v160 : Ref sig .tc := ⟨.hbm, 227, rfl⟩
abbrev main_cst_47 : Ref sig .tc := ⟨.hbm, 228, rfl⟩
abbrev main_v161 : Ref sig .tc := ⟨.hbm, 229, rfl⟩
abbrev main_cst_48 : Ref sig .tc := ⟨.hbm, 230, rfl⟩
abbrev main_v162 : Ref sig .tc := ⟨.hbm, 231, rfl⟩
abbrev main_cst_49 : Ref sig .tc := ⟨.hbm, 232, rfl⟩
abbrev main_call13_v0 : Ref sig .tc := ⟨.hbm, 233, rfl⟩
abbrev main_call13_v1 : Ref sig .tc := ⟨.hbm, 234, rfl⟩
abbrev main_v163 : Ref sig .tc := ⟨.hbm, 235, rfl⟩
abbrev main_cst_50 : Ref sig .tc := ⟨.hbm, 236, rfl⟩
abbrev main_v164 : Ref sig .tc := ⟨.hbm, 237, rfl⟩
abbrev main_v165 : Ref sig .tc := ⟨.hbm, 238, rfl⟩
abbrev main_cst_51 : Ref sig .tc := ⟨.hbm, 239, rfl⟩
abbrev main_call14_v0 : Ref sig .tc := ⟨.hbm, 240, rfl⟩
abbrev main_call14_v1 : Ref sig .tc := ⟨.hbm, 241, rfl⟩
abbrev main_v166 : Ref sig .tc := ⟨.hbm, 242, rfl⟩
abbrev main_cst_52 : Ref sig .tc := ⟨.hbm, 243, rfl⟩
abbrev main_v167 : Ref sig .tc := ⟨.hbm, 244, rfl⟩
abbrev main_v168 : Ref sig .tc := ⟨.hbm, 245, rfl⟩
abbrev main_cst_53 : Ref sig .tc := ⟨.hbm, 246, rfl⟩
abbrev main_v169 : Ref sig .tc := ⟨.hbm, 247, rfl⟩
abbrev main_v170 : Ref sig .tc := ⟨.hbm, 248, rfl⟩
abbrev main_v171 : Ref sig .tc := ⟨.hbm, 249, rfl⟩
abbrev main_cst_54 : Ref sig .tc := ⟨.hbm, 250, rfl⟩
abbrev main_v172 : Ref sig .tc := ⟨.hbm, 251, rfl⟩
abbrev main_v173 : Ref sig .tc := ⟨.hbm, 252, rfl⟩
abbrev main_v174 : Ref sig .tc := ⟨.hbm, 253, rfl⟩
abbrev main_v175 : Ref sig .tc := ⟨.hbm, 254, rfl⟩
abbrev main_v176 : Ref sig .tc := ⟨.hbm, 255, rfl⟩
abbrev main_v177 : Ref sig .tc := ⟨.hbm, 256, rfl⟩
abbrev main_v178 : Ref sig .tc := ⟨.hbm, 257, rfl⟩
abbrev main_v179 : Ref sig .tc := ⟨.hbm, 258, rfl⟩
abbrev main_v180 : Ref sig .tc := ⟨.hbm, 259, rfl⟩
abbrev main_v181 : Ref sig .tc := ⟨.hbm, 260, rfl⟩
abbrev main_v182 : Ref sig .tc := ⟨.hbm, 261, rfl⟩
abbrev main_cst_55 : Ref sig .tc := ⟨.hbm, 262, rfl⟩
abbrev main_v183 : Ref sig .tc := ⟨.hbm, 263, rfl⟩
abbrev main_cst_56 : Ref sig .tc := ⟨.hbm, 264, rfl⟩
abbrev main_v184 : Ref sig .tc := ⟨.hbm, 265, rfl⟩
abbrev main_cst_57 : Ref sig .tc := ⟨.hbm, 266, rfl⟩
abbrev main_call16_v0 : Ref sig .tc := ⟨.hbm, 267, rfl⟩
abbrev main_call16_v1 : Ref sig .tc := ⟨.hbm, 268, rfl⟩
abbrev main_v185 : Ref sig .tc := ⟨.hbm, 269, rfl⟩
abbrev main_cst_58 : Ref sig .tc := ⟨.hbm, 270, rfl⟩
abbrev main_v186 : Ref sig .tc := ⟨.hbm, 271, rfl⟩
abbrev main_v187 : Ref sig .tc := ⟨.hbm, 272, rfl⟩
abbrev main_cst_59 : Ref sig .tc := ⟨.hbm, 273, rfl⟩
abbrev main_call17_v0 : Ref sig .tc := ⟨.hbm, 274, rfl⟩
abbrev main_call17_v1 : Ref sig .tc := ⟨.hbm, 275, rfl⟩
abbrev main_v188 : Ref sig .tc := ⟨.hbm, 276, rfl⟩
abbrev main_cst_60 : Ref sig .tc := ⟨.hbm, 277, rfl⟩
abbrev main_v189 : Ref sig .tc := ⟨.hbm, 278, rfl⟩
abbrev main_v190 : Ref sig .tc := ⟨.hbm, 279, rfl⟩
abbrev main_cst_61 : Ref sig .tc := ⟨.hbm, 280, rfl⟩
abbrev main_v191 : Ref sig .tc := ⟨.hbm, 281, rfl⟩
abbrev main_v192 : Ref sig .tc := ⟨.hbm, 282, rfl⟩
abbrev main_v193 : Ref sig .tc := ⟨.hbm, 283, rfl⟩
abbrev main_cst_62 : Ref sig .tc := ⟨.hbm, 284, rfl⟩
abbrev main_v194 : Ref sig .tc := ⟨.hbm, 285, rfl⟩
abbrev main_v195 : Ref sig .tc := ⟨.hbm, 286, rfl⟩
abbrev main_v196 : Ref sig .tc := ⟨.hbm, 287, rfl⟩
abbrev main_v197 : Ref sig .tc := ⟨.hbm, 288, rfl⟩
abbrev main_v198 : Ref sig .tc := ⟨.hbm, 289, rfl⟩
abbrev main_v199 : Ref sig .tc := ⟨.hbm, 290, rfl⟩
abbrev main_v200 : Ref sig .tc := ⟨.hbm, 291, rfl⟩
abbrev main_v201 : Ref sig .tc := ⟨.hbm, 292, rfl⟩
abbrev main_v202 : Ref sig .tc := ⟨.hbm, 293, rfl⟩
abbrev main_v203 : Ref sig .tc := ⟨.hbm, 294, rfl⟩
abbrev main_v204 : Ref sig .tc := ⟨.hbm, 295, rfl⟩
abbrev main_cst_63 : Ref sig .tc := ⟨.hbm, 296, rfl⟩
abbrev main_v205 : Ref sig .tc := ⟨.hbm, 297, rfl⟩
abbrev main_cst_64 : Ref sig .tc := ⟨.hbm, 298, rfl⟩
abbrev main_v206 : Ref sig .tc := ⟨.hbm, 299, rfl⟩
abbrev main_cst_65 : Ref sig .tc := ⟨.hbm, 300, rfl⟩
abbrev main_call19_v0 : Ref sig .tc := ⟨.hbm, 301, rfl⟩
abbrev main_call19_v1 : Ref sig .tc := ⟨.hbm, 302, rfl⟩
abbrev main_v207 : Ref sig .tc := ⟨.hbm, 303, rfl⟩
abbrev main_cst_66 : Ref sig .tc := ⟨.hbm, 304, rfl⟩
abbrev main_v208 : Ref sig .tc := ⟨.hbm, 305, rfl⟩
abbrev main_v209 : Ref sig .tc := ⟨.hbm, 306, rfl⟩
abbrev main_cst_67 : Ref sig .tc := ⟨.hbm, 307, rfl⟩
abbrev main_call20_v0 : Ref sig .tc := ⟨.hbm, 308, rfl⟩
abbrev main_call20_v1 : Ref sig .tc := ⟨.hbm, 309, rfl⟩
abbrev main_v210 : Ref sig .tc := ⟨.hbm, 310, rfl⟩
abbrev main_cst_68 : Ref sig .tc := ⟨.hbm, 311, rfl⟩
abbrev main_v211 : Ref sig .tc := ⟨.hbm, 312, rfl⟩
abbrev main_v212 : Ref sig .tc := ⟨.hbm, 313, rfl⟩
abbrev main_cst_69 : Ref sig .tc := ⟨.hbm, 314, rfl⟩
abbrev main_v213 : Ref sig .tc := ⟨.hbm, 315, rfl⟩
abbrev main_v214 : Ref sig .tc := ⟨.hbm, 316, rfl⟩
abbrev main_v215 : Ref sig .tc := ⟨.hbm, 317, rfl⟩
abbrev main_cst_70 : Ref sig .tc := ⟨.hbm, 318, rfl⟩
abbrev main_v216 : Ref sig .tc := ⟨.hbm, 319, rfl⟩
abbrev main_v217 : Ref sig .tc := ⟨.hbm, 320, rfl⟩
abbrev main_v218 : Ref sig .tc := ⟨.hbm, 321, rfl⟩
abbrev main_v219 : Ref sig .tc := ⟨.hbm, 322, rfl⟩
abbrev main_v220 : Ref sig .tc := ⟨.hbm, 323, rfl⟩
abbrev main_v221 : Ref sig .tc := ⟨.hbm, 324, rfl⟩
abbrev main_v222 : Ref sig .tc := ⟨.hbm, 325, rfl⟩
abbrev main_v223 : Ref sig .tc := ⟨.hbm, 326, rfl⟩
abbrev main_v224 : Ref sig .tc := ⟨.hbm, 327, rfl⟩
abbrev main_v225 : Ref sig .tc := ⟨.hbm, 328, rfl⟩
abbrev main_v226 : Ref sig .tc := ⟨.hbm, 329, rfl⟩
abbrev main_cst_71 : Ref sig .tc := ⟨.hbm, 330, rfl⟩
abbrev main_v227 : Ref sig .tc := ⟨.hbm, 331, rfl⟩
abbrev main_cst_72 : Ref sig .tc := ⟨.hbm, 332, rfl⟩
abbrev main_v228 : Ref sig .tc := ⟨.hbm, 333, rfl⟩
abbrev main_cst_73 : Ref sig .tc := ⟨.hbm, 334, rfl⟩
abbrev main_call22_v0 : Ref sig .tc := ⟨.hbm, 335, rfl⟩
abbrev main_call22_v1 : Ref sig .tc := ⟨.hbm, 336, rfl⟩
abbrev main_v229 : Ref sig .tc := ⟨.hbm, 337, rfl⟩
abbrev main_cst_74 : Ref sig .tc := ⟨.hbm, 338, rfl⟩
abbrev main_v230 : Ref sig .tc := ⟨.hbm, 339, rfl⟩
abbrev main_v231 : Ref sig .tc := ⟨.hbm, 340, rfl⟩
abbrev main_cst_75 : Ref sig .tc := ⟨.hbm, 341, rfl⟩
abbrev main_call23_v0 : Ref sig .tc := ⟨.hbm, 342, rfl⟩
abbrev main_call23_v1 : Ref sig .tc := ⟨.hbm, 343, rfl⟩
abbrev main_v232 : Ref sig .tc := ⟨.hbm, 344, rfl⟩
abbrev main_cst_76 : Ref sig .tc := ⟨.hbm, 345, rfl⟩
abbrev main_v233 : Ref sig .tc := ⟨.hbm, 346, rfl⟩
abbrev main_v234 : Ref sig .tc := ⟨.hbm, 347, rfl⟩
abbrev main_cst_77 : Ref sig .tc := ⟨.hbm, 348, rfl⟩
abbrev main_v235 : Ref sig .tc := ⟨.hbm, 349, rfl⟩
abbrev main_v236 : Ref sig .tc := ⟨.hbm, 350, rfl⟩
abbrev main_v237 : Ref sig .tc := ⟨.hbm, 351, rfl⟩
abbrev main_cst_78 : Ref sig .tc := ⟨.hbm, 352, rfl⟩
abbrev main_v238 : Ref sig .tc := ⟨.hbm, 353, rfl⟩
abbrev main_v239 : Ref sig .tc := ⟨.hbm, 354, rfl⟩
abbrev main_v240 : Ref sig .tc := ⟨.hbm, 355, rfl⟩
abbrev main_v241 : Ref sig .tc := ⟨.hbm, 356, rfl⟩
abbrev main_v242 : Ref sig .tc := ⟨.hbm, 357, rfl⟩
abbrev main_v243 : Ref sig .tc := ⟨.hbm, 358, rfl⟩
abbrev main_v244 : Ref sig .tc := ⟨.hbm, 359, rfl⟩
abbrev main_v245 : Ref sig .tc := ⟨.hbm, 360, rfl⟩
abbrev main_v246 : Ref sig .tc := ⟨.hbm, 361, rfl⟩
abbrev main_v247 : Ref sig .tc := ⟨.hbm, 362, rfl⟩
abbrev main_v248 : Ref sig .tc := ⟨.hbm, 363, rfl⟩
abbrev main_cst_79 : Ref sig .tc := ⟨.hbm, 364, rfl⟩
abbrev main_v249 : Ref sig .tc := ⟨.hbm, 365, rfl⟩
abbrev main_cst_80 : Ref sig .tc := ⟨.hbm, 366, rfl⟩
abbrev main_v250 : Ref sig .tc := ⟨.hbm, 367, rfl⟩
abbrev main_cst_81 : Ref sig .tc := ⟨.hbm, 368, rfl⟩
abbrev main_call25_v0 : Ref sig .tc := ⟨.hbm, 369, rfl⟩
abbrev main_call25_v1 : Ref sig .tc := ⟨.hbm, 370, rfl⟩
abbrev main_v251 : Ref sig .tc := ⟨.hbm, 371, rfl⟩
abbrev main_cst_82 : Ref sig .tc := ⟨.hbm, 372, rfl⟩
abbrev main_v252 : Ref sig .tc := ⟨.hbm, 373, rfl⟩
abbrev main_v253 : Ref sig .tc := ⟨.hbm, 374, rfl⟩
abbrev main_cst_83 : Ref sig .tc := ⟨.hbm, 375, rfl⟩
abbrev main_call26_v0 : Ref sig .tc := ⟨.hbm, 376, rfl⟩
abbrev main_call26_v1 : Ref sig .tc := ⟨.hbm, 377, rfl⟩
abbrev main_v254 : Ref sig .tc := ⟨.hbm, 378, rfl⟩
abbrev main_cst_84 : Ref sig .tc := ⟨.hbm, 379, rfl⟩
abbrev main_v255 : Ref sig .tc := ⟨.hbm, 380, rfl⟩
abbrev main_v256 : Ref sig .tc := ⟨.hbm, 381, rfl⟩
abbrev main_cst_85 : Ref sig .tc := ⟨.hbm, 382, rfl⟩
abbrev main_v257 : Ref sig .tc := ⟨.hbm, 383, rfl⟩
abbrev main_v258 : Ref sig .tc := ⟨.hbm, 384, rfl⟩
abbrev main_v259 : Ref sig .tc := ⟨.hbm, 385, rfl⟩
abbrev main_cst_86 : Ref sig .tc := ⟨.hbm, 386, rfl⟩
abbrev main_v260 : Ref sig .tc := ⟨.hbm, 387, rfl⟩
abbrev main_v261 : Ref sig .tc := ⟨.hbm, 388, rfl⟩
abbrev main_v262 : Ref sig .tc := ⟨.hbm, 389, rfl⟩
abbrev main_v263 : Ref sig .tc := ⟨.hbm, 390, rfl⟩
abbrev main_v264 : Ref sig .tc := ⟨.hbm, 391, rfl⟩
abbrev main_v265 : Ref sig .tc := ⟨.hbm, 392, rfl⟩
abbrev main_v266 : Ref sig .tc := ⟨.hbm, 393, rfl⟩
abbrev main_v267 : Ref sig .tc := ⟨.hbm, 394, rfl⟩
abbrev main_v268 : Ref sig .tc := ⟨.hbm, 395, rfl⟩
abbrev main_v269 : Ref sig .tc := ⟨.hbm, 396, rfl⟩
abbrev main_v270 : Ref sig .tc := ⟨.hbm, 397, rfl⟩
abbrev main_cst_87 : Ref sig .tc := ⟨.hbm, 398, rfl⟩
abbrev main_v271 : Ref sig .tc := ⟨.hbm, 399, rfl⟩
abbrev main_cst_88 : Ref sig .tc := ⟨.hbm, 400, rfl⟩
abbrev main_v272 : Ref sig .tc := ⟨.hbm, 401, rfl⟩
abbrev main_cst_89 : Ref sig .tc := ⟨.hbm, 402, rfl⟩
abbrev main_call28_v0 : Ref sig .tc := ⟨.hbm, 403, rfl⟩
abbrev main_call28_v1 : Ref sig .tc := ⟨.hbm, 404, rfl⟩
abbrev main_v273 : Ref sig .tc := ⟨.hbm, 405, rfl⟩
abbrev main_cst_90 : Ref sig .tc := ⟨.hbm, 406, rfl⟩
abbrev main_v274 : Ref sig .tc := ⟨.hbm, 407, rfl⟩
abbrev main_v275 : Ref sig .tc := ⟨.hbm, 408, rfl⟩
abbrev main_cst_91 : Ref sig .tc := ⟨.hbm, 409, rfl⟩
abbrev main_call29_v0 : Ref sig .tc := ⟨.hbm, 410, rfl⟩
abbrev main_call29_v1 : Ref sig .tc := ⟨.hbm, 411, rfl⟩
abbrev main_v276 : Ref sig .tc := ⟨.hbm, 412, rfl⟩
abbrev main_cst_92 : Ref sig .tc := ⟨.hbm, 413, rfl⟩
abbrev main_v277 : Ref sig .tc := ⟨.hbm, 414, rfl⟩
abbrev main_v278 : Ref sig .tc := ⟨.hbm, 415, rfl⟩
abbrev main_cst_93 : Ref sig .tc := ⟨.hbm, 416, rfl⟩
abbrev main_v279 : Ref sig .tc := ⟨.hbm, 417, rfl⟩
abbrev main_v280 : Ref sig .tc := ⟨.hbm, 418, rfl⟩
abbrev main_v281 : Ref sig .tc := ⟨.hbm, 419, rfl⟩
abbrev main_cst_94 : Ref sig .tc := ⟨.hbm, 420, rfl⟩
abbrev main_v282 : Ref sig .tc := ⟨.hbm, 421, rfl⟩
abbrev main_v283 : Ref sig .tc := ⟨.hbm, 422, rfl⟩
abbrev main_v284 : Ref sig .tc := ⟨.hbm, 423, rfl⟩
abbrev main_v285 : Ref sig .tc := ⟨.hbm, 424, rfl⟩
abbrev main_v286 : Ref sig .tc := ⟨.hbm, 425, rfl⟩
abbrev main_v287 : Ref sig .tc := ⟨.hbm, 426, rfl⟩
abbrev main_v288 : Ref sig .tc := ⟨.hbm, 427, rfl⟩
abbrev main_v289 : Ref sig .tc := ⟨.hbm, 428, rfl⟩
abbrev main_v290 : Ref sig .tc := ⟨.hbm, 429, rfl⟩
abbrev main_v291 : Ref sig .tc := ⟨.hbm, 430, rfl⟩
abbrev main_v292 : Ref sig .tc := ⟨.hbm, 431, rfl⟩
abbrev main_cst_95 : Ref sig .tc := ⟨.hbm, 432, rfl⟩
abbrev main_v293 : Ref sig .tc := ⟨.hbm, 433, rfl⟩
abbrev main_cst_96 : Ref sig .tc := ⟨.hbm, 434, rfl⟩
abbrev main_v294 : Ref sig .tc := ⟨.hbm, 435, rfl⟩
abbrev main_cst_97 : Ref sig .tc := ⟨.hbm, 436, rfl⟩
abbrev main_call31_v0 : Ref sig .tc := ⟨.hbm, 437, rfl⟩
abbrev main_call31_v1 : Ref sig .tc := ⟨.hbm, 438, rfl⟩
abbrev main_v295 : Ref sig .tc := ⟨.hbm, 439, rfl⟩
abbrev main_cst_98 : Ref sig .tc := ⟨.hbm, 440, rfl⟩
abbrev main_v296 : Ref sig .tc := ⟨.hbm, 441, rfl⟩
abbrev main_v297 : Ref sig .tc := ⟨.hbm, 442, rfl⟩
abbrev main_cst_99 : Ref sig .tc := ⟨.hbm, 443, rfl⟩
abbrev main_call32_v0 : Ref sig .tc := ⟨.hbm, 444, rfl⟩
abbrev main_call32_v1 : Ref sig .tc := ⟨.hbm, 445, rfl⟩
abbrev main_v298 : Ref sig .tc := ⟨.hbm, 446, rfl⟩
abbrev main_cst_100 : Ref sig .tc := ⟨.hbm, 447, rfl⟩
abbrev main_v299 : Ref sig .tc := ⟨.hbm, 448, rfl⟩
abbrev main_v300 : Ref sig .tc := ⟨.hbm, 449, rfl⟩
abbrev main_cst_101 : Ref sig .tc := ⟨.hbm, 450, rfl⟩
abbrev main_v301 : Ref sig .tc := ⟨.hbm, 451, rfl⟩
abbrev main_v302 : Ref sig .tc := ⟨.hbm, 452, rfl⟩
abbrev main_v303 : Ref sig .tc := ⟨.hbm, 453, rfl⟩
abbrev main_cst_102 : Ref sig .tc := ⟨.hbm, 454, rfl⟩
abbrev main_v304 : Ref sig .tc := ⟨.hbm, 455, rfl⟩
abbrev main_v305 : Ref sig .tc := ⟨.hbm, 456, rfl⟩
abbrev main_v306 : Ref sig .tc := ⟨.hbm, 457, rfl⟩
abbrev main_v307 : Ref sig .tc := ⟨.hbm, 458, rfl⟩
abbrev main_v308 : Ref sig .tc := ⟨.hbm, 459, rfl⟩
abbrev main_v309 : Ref sig .tc := ⟨.hbm, 460, rfl⟩
abbrev main_v310 : Ref sig .tc := ⟨.hbm, 461, rfl⟩
abbrev main_v311 : Ref sig .tc := ⟨.hbm, 462, rfl⟩
abbrev main_v312 : Ref sig .tc := ⟨.hbm, 463, rfl⟩
abbrev main_v313 : Ref sig .tc := ⟨.hbm, 464, rfl⟩
abbrev main_v314 : Ref sig .tc := ⟨.hbm, 465, rfl⟩
abbrev main_cst_103 : Ref sig .tc := ⟨.hbm, 466, rfl⟩
abbrev main_v315 : Ref sig .tc := ⟨.hbm, 467, rfl⟩
abbrev main_cst_104 : Ref sig .tc := ⟨.hbm, 468, rfl⟩
abbrev main_v316 : Ref sig .tc := ⟨.hbm, 469, rfl⟩
abbrev main_cst_105 : Ref sig .tc := ⟨.hbm, 470, rfl⟩
abbrev main_call34_v0 : Ref sig .tc := ⟨.hbm, 471, rfl⟩
abbrev main_call34_v1 : Ref sig .tc := ⟨.hbm, 472, rfl⟩
abbrev main_v317 : Ref sig .tc := ⟨.hbm, 473, rfl⟩
abbrev main_cst_106 : Ref sig .tc := ⟨.hbm, 474, rfl⟩
abbrev main_v318 : Ref sig .tc := ⟨.hbm, 475, rfl⟩
abbrev main_v319 : Ref sig .tc := ⟨.hbm, 476, rfl⟩
abbrev main_cst_107 : Ref sig .tc := ⟨.hbm, 477, rfl⟩
abbrev main_call35_v0 : Ref sig .tc := ⟨.hbm, 478, rfl⟩
abbrev main_call35_v1 : Ref sig .tc := ⟨.hbm, 479, rfl⟩
abbrev main_v320 : Ref sig .tc := ⟨.hbm, 480, rfl⟩
abbrev main_cst_108 : Ref sig .tc := ⟨.hbm, 481, rfl⟩
abbrev main_v321 : Ref sig .tc := ⟨.hbm, 482, rfl⟩
abbrev main_v322 : Ref sig .tc := ⟨.hbm, 483, rfl⟩
abbrev main_cst_109 : Ref sig .tc := ⟨.hbm, 484, rfl⟩
abbrev main_v323 : Ref sig .tc := ⟨.hbm, 485, rfl⟩
abbrev main_v324 : Ref sig .tc := ⟨.hbm, 486, rfl⟩
abbrev main_v325 : Ref sig .tc := ⟨.hbm, 487, rfl⟩
abbrev main_cst_110 : Ref sig .tc := ⟨.hbm, 488, rfl⟩
abbrev main_v326 : Ref sig .tc := ⟨.hbm, 489, rfl⟩
abbrev main_v327 : Ref sig .tc := ⟨.hbm, 490, rfl⟩
abbrev main_v328 : Ref sig .tc := ⟨.hbm, 491, rfl⟩
abbrev main_v329 : Ref sig .tc := ⟨.hbm, 492, rfl⟩
abbrev main_v330 : Ref sig .tc := ⟨.hbm, 493, rfl⟩
abbrev main_v331 : Ref sig .tc := ⟨.hbm, 494, rfl⟩
abbrev main_v332 : Ref sig .tc := ⟨.hbm, 495, rfl⟩
abbrev main_v333 : Ref sig .tc := ⟨.hbm, 496, rfl⟩
abbrev main_v334 : Ref sig .tc := ⟨.hbm, 497, rfl⟩
abbrev main_v335 : Ref sig .tc := ⟨.hbm, 498, rfl⟩
abbrev main_v336 : Ref sig .tc := ⟨.hbm, 499, rfl⟩
abbrev main_cst_111 : Ref sig .tc := ⟨.hbm, 500, rfl⟩
abbrev main_v337 : Ref sig .tc := ⟨.hbm, 501, rfl⟩
abbrev main_cst_112 : Ref sig .tc := ⟨.hbm, 502, rfl⟩
abbrev main_v338 : Ref sig .tc := ⟨.hbm, 503, rfl⟩
abbrev main_cst_113 : Ref sig .tc := ⟨.hbm, 504, rfl⟩
abbrev main_call37_v0 : Ref sig .tc := ⟨.hbm, 505, rfl⟩
abbrev main_call37_v1 : Ref sig .tc := ⟨.hbm, 506, rfl⟩
abbrev main_v339 : Ref sig .tc := ⟨.hbm, 507, rfl⟩
abbrev main_cst_114 : Ref sig .tc := ⟨.hbm, 508, rfl⟩
abbrev main_v340 : Ref sig .tc := ⟨.hbm, 509, rfl⟩
abbrev main_v341 : Ref sig .tc := ⟨.hbm, 510, rfl⟩
abbrev main_cst_115 : Ref sig .tc := ⟨.hbm, 511, rfl⟩
abbrev main_call38_v0 : Ref sig .tc := ⟨.hbm, 512, rfl⟩
abbrev main_call38_v1 : Ref sig .tc := ⟨.hbm, 513, rfl⟩
abbrev main_v342 : Ref sig .tc := ⟨.hbm, 514, rfl⟩
abbrev main_cst_116 : Ref sig .tc := ⟨.hbm, 515, rfl⟩
abbrev main_v343 : Ref sig .tc := ⟨.hbm, 516, rfl⟩
abbrev main_v344 : Ref sig .tc := ⟨.hbm, 517, rfl⟩
abbrev main_cst_117 : Ref sig .tc := ⟨.hbm, 518, rfl⟩
abbrev main_v345 : Ref sig .tc := ⟨.hbm, 519, rfl⟩
abbrev main_v346 : Ref sig .tc := ⟨.hbm, 520, rfl⟩
abbrev main_v347 : Ref sig .tc := ⟨.hbm, 521, rfl⟩
abbrev main_cst_118 : Ref sig .tc := ⟨.hbm, 522, rfl⟩
abbrev main_v348 : Ref sig .tc := ⟨.hbm, 523, rfl⟩
abbrev main_v349 : Ref sig .tc := ⟨.hbm, 524, rfl⟩
abbrev main_v350 : Ref sig .tc := ⟨.hbm, 525, rfl⟩
abbrev main_v351 : Ref sig .tc := ⟨.hbm, 526, rfl⟩
abbrev main_v352 : Ref sig .tc := ⟨.hbm, 527, rfl⟩
abbrev main_v353 : Ref sig .tc := ⟨.hbm, 528, rfl⟩
abbrev main_v354 : Ref sig .tc := ⟨.hbm, 529, rfl⟩
abbrev main_v355 : Ref sig .tc := ⟨.hbm, 530, rfl⟩
abbrev main_v356 : Ref sig .tc := ⟨.hbm, 531, rfl⟩
abbrev main_v357 : Ref sig .tc := ⟨.hbm, 532, rfl⟩
abbrev main_v358 : Ref sig .tc := ⟨.hbm, 533, rfl⟩
abbrev main_cst_119 : Ref sig .tc := ⟨.hbm, 534, rfl⟩
abbrev main_v359 : Ref sig .tc := ⟨.hbm, 535, rfl⟩
abbrev main_cst_120 : Ref sig .tc := ⟨.hbm, 536, rfl⟩
abbrev main_v360 : Ref sig .tc := ⟨.hbm, 537, rfl⟩
abbrev main_cst_121 : Ref sig .tc := ⟨.hbm, 538, rfl⟩
abbrev main_call40_v0 : Ref sig .tc := ⟨.hbm, 539, rfl⟩
abbrev main_call40_v1 : Ref sig .tc := ⟨.hbm, 540, rfl⟩
abbrev main_v361 : Ref sig .tc := ⟨.hbm, 541, rfl⟩
abbrev main_cst_122 : Ref sig .tc := ⟨.hbm, 542, rfl⟩
abbrev main_v362 : Ref sig .tc := ⟨.hbm, 543, rfl⟩
abbrev main_v363 : Ref sig .tc := ⟨.hbm, 544, rfl⟩
abbrev main_cst_123 : Ref sig .tc := ⟨.hbm, 545, rfl⟩
abbrev main_call41_v0 : Ref sig .tc := ⟨.hbm, 546, rfl⟩
abbrev main_call41_v1 : Ref sig .tc := ⟨.hbm, 547, rfl⟩
abbrev main_v364 : Ref sig .tc := ⟨.hbm, 548, rfl⟩
abbrev main_cst_124 : Ref sig .tc := ⟨.hbm, 549, rfl⟩
abbrev main_v365 : Ref sig .tc := ⟨.hbm, 550, rfl⟩
abbrev main_v366 : Ref sig .tc := ⟨.hbm, 551, rfl⟩
abbrev main_cst_125 : Ref sig .tc := ⟨.hbm, 552, rfl⟩
abbrev main_v367 : Ref sig .tc := ⟨.hbm, 553, rfl⟩
abbrev main_v368 : Ref sig .tc := ⟨.hbm, 554, rfl⟩
abbrev main_v369 : Ref sig .tc := ⟨.hbm, 555, rfl⟩
abbrev main_cst_126 : Ref sig .tc := ⟨.hbm, 556, rfl⟩
abbrev main_v370 : Ref sig .tc := ⟨.hbm, 557, rfl⟩
abbrev main_v371 : Ref sig .tc := ⟨.hbm, 558, rfl⟩
abbrev main_v372 : Ref sig .tc := ⟨.hbm, 559, rfl⟩
abbrev main_v373 : Ref sig .tc := ⟨.hbm, 560, rfl⟩
abbrev main_v374 : Ref sig .tc := ⟨.hbm, 561, rfl⟩
abbrev main_v375 : Ref sig .tc := ⟨.hbm, 562, rfl⟩
abbrev main_v376 : Ref sig .tc := ⟨.hbm, 563, rfl⟩
abbrev main_v377 : Ref sig .tc := ⟨.hbm, 564, rfl⟩
abbrev main_v378 : Ref sig .tc := ⟨.hbm, 565, rfl⟩
abbrev main_v379 : Ref sig .tc := ⟨.hbm, 566, rfl⟩
abbrev main_v380 : Ref sig .tc := ⟨.hbm, 567, rfl⟩
abbrev main_cst_127 : Ref sig .tc := ⟨.hbm, 568, rfl⟩
abbrev main_v381 : Ref sig .tc := ⟨.hbm, 569, rfl⟩
abbrev main_cst_128 : Ref sig .tc := ⟨.hbm, 570, rfl⟩
abbrev main_v382 : Ref sig .tc := ⟨.hbm, 571, rfl⟩
abbrev main_cst_129 : Ref sig .tc := ⟨.hbm, 572, rfl⟩
abbrev main_call43_v0 : Ref sig .tc := ⟨.hbm, 573, rfl⟩
abbrev main_call43_v1 : Ref sig .tc := ⟨.hbm, 574, rfl⟩
abbrev main_v383 : Ref sig .tc := ⟨.hbm, 575, rfl⟩
abbrev main_cst_130 : Ref sig .tc := ⟨.hbm, 576, rfl⟩
abbrev main_v384 : Ref sig .tc := ⟨.hbm, 577, rfl⟩
abbrev main_v385 : Ref sig .tc := ⟨.hbm, 578, rfl⟩
abbrev main_cst_131 : Ref sig .tc := ⟨.hbm, 579, rfl⟩
abbrev main_call44_v0 : Ref sig .tc := ⟨.hbm, 580, rfl⟩
abbrev main_call44_v1 : Ref sig .tc := ⟨.hbm, 581, rfl⟩
abbrev main_v386 : Ref sig .tc := ⟨.hbm, 582, rfl⟩
abbrev main_cst_132 : Ref sig .tc := ⟨.hbm, 583, rfl⟩
abbrev main_v387 : Ref sig .tc := ⟨.hbm, 584, rfl⟩
abbrev main_v388 : Ref sig .tc := ⟨.hbm, 585, rfl⟩
abbrev main_cst_133 : Ref sig .tc := ⟨.hbm, 586, rfl⟩
abbrev main_v389 : Ref sig .tc := ⟨.hbm, 587, rfl⟩
abbrev main_v390 : Ref sig .tc := ⟨.hbm, 588, rfl⟩
abbrev main_v391 : Ref sig .tc := ⟨.hbm, 589, rfl⟩
abbrev main_cst_134 : Ref sig .tc := ⟨.hbm, 590, rfl⟩
abbrev main_v392 : Ref sig .tc := ⟨.hbm, 591, rfl⟩
abbrev main_v393 : Ref sig .tc := ⟨.hbm, 592, rfl⟩
abbrev main_v394 : Ref sig .tc := ⟨.hbm, 593, rfl⟩
abbrev main_v395 : Ref sig .tc := ⟨.hbm, 594, rfl⟩
abbrev main_v396 : Ref sig .tc := ⟨.hbm, 595, rfl⟩
abbrev main_v397 : Ref sig .tc := ⟨.hbm, 596, rfl⟩
abbrev main_v398 : Ref sig .tc := ⟨.hbm, 597, rfl⟩
abbrev main_v399 : Ref sig .tc := ⟨.hbm, 598, rfl⟩
abbrev main_v400 : Ref sig .tc := ⟨.hbm, 599, rfl⟩
abbrev main_v401 : Ref sig .tc := ⟨.hbm, 600, rfl⟩
abbrev main_v402 : Ref sig .tc := ⟨.hbm, 601, rfl⟩
abbrev main_v403 : Ref sig .tc := ⟨.hbm, 602, rfl⟩
abbrev main_v404 : Ref sig .tc := ⟨.hbm, 603, rfl⟩
abbrev main_v405 : Ref sig .tc := ⟨.hbm, 604, rfl⟩
abbrev main_v406 : Ref sig .tc := ⟨.hbm, 605, rfl⟩
abbrev main_v407 : Ref sig .tc := ⟨.hbm, 606, rfl⟩
abbrev main_v408 : Ref sig .tc := ⟨.hbm, 607, rfl⟩
abbrev main_cst_135 : Ref sig .tc := ⟨.hbm, 608, rfl⟩
abbrev main_v409 : Ref sig .tc := ⟨.hbm, 609, rfl⟩
abbrev main_cst_136 : Ref sig .tc := ⟨.hbm, 610, rfl⟩
abbrev main_v410 : Ref sig .tc := ⟨.hbm, 611, rfl⟩

abbrev nD : Nat := 1
abbrev τ : Topo := Topo.v7x

variable {F : FTy → Type} [FloatOps F]
-- ==== Proof.Spec.lean ====
module

public import proofs.«01_k».proof.Proof.Gen.KernelIdeal

@[expose] public section

set_option maxRecDepth 16384

/-!
What one grid point of the kernel computes, written as functions of the blocks it reads.

Stage A takes the 1000 × 2048 block of logits in 125 chunks of eight rows; stage B takes the two 128 × 128
tiles of entropies and errors, sorts the first by the bitonic network and folds the fifteen bins.
-/

noncomputable section

namespace Cert.KernelIdeal.Hand

open Idealize.ShloMosaic
open Cert.KernelIdeal.Gen

variable {F : FTy → Type} [FloatOps F] [Named F]

/-! ### Stage A -/

section StageA

variable (ld : ℕ → FVec F S8x2048 .f32)

/-- The running maximum after the chunks `0 … n`. -/
def maxUpTo : ℕ → FVec F S8x2048 .f32
  | 0 => shapeCast S8x2048 (ld 0) shapeCasts_S8x2048_S8x2048
  | n + 1 => maximumf (maxUpTo n) (shapeCast S8x2048 (ld (n + 1)) shapeCasts_S8x2048_S8x2048)

/-- The maximum of every column of the block. -/
def colMax : FVec F S1x2048 .f32 :=
  shapeCast S1x2048 (multiReduction .maximumf [0] S2048 (maxUpTo ld 124) 0xFF800000#32 reduces_S8x2048_S2048
    (.inl rfl) rfl) shapeCasts_S2048_S1x2048

/-- Chunk `n` of the exponentials of the differences to the maximum. -/
def expChunk (m : FVec F S1x2048 .f32) (n : ℕ) : FVec F S8x2048 .f32 :=
  exp (subf (shapeCast S8x2048 (ld n) shapeCasts_S8x2048_S8x2048)
    (broadcastTo S8x2048 m broadcasts_S1x2048_S8x2048))

/-- The zero the accumulators start at. -/
def zeroChunk : FVec F S8x2048 .f32 := broadcast S8x2048 (Scalar.ofBits .f32 0x00000000#32 : F .f32)

/-- The first `n` chunks of exponentials, summed. -/
def accSum (m : FVec F S1x2048 .f32) : ℕ → FVec F S8x2048 .f32
  | 0 => zeroChunk
  | n + 1 => addf (accSum m n) (expChunk ld m n)

/-- The first `n` chunks of squared exponentials, summed. -/
def accSq (m : FVec F S1x2048 .f32) : ℕ → FVec F S8x2048 .f32
  | 0 => zeroChunk
  | n + 1 => addf (accSq m n) (mulf (expChunk ld m n) (expChunk ld m n))

/-- The labels, as the kernel reads them. -/
def labRow (lab : IVec S1x2048 32) : IVec S1x2048 32 := shapeCast S1x2048 lab shapeCasts_S1x2048_S1x2048

/-- The exponential at the label's row if that row is in one of the first `n` chunks. -/
def accLab (lab : IVec S1x2048 32) (m : FVec F S1x2048 .f32) : ℕ → FVec F S8x2048 .f32
  | 0 => zeroChunk
  | n + 1 => addf (accLab lab m n)
      (select (cmpi .eq (addi (broadcast S8x2048 (BitVec.ofNat 32 (8 * n)))
          (iota .tc S8x2048 32 [0] iota_S8x2048_d0_w32))
        (broadcastTo S8x2048 (labRow lab) broadcasts_S1x2048_S8x2048)) (expChunk ld m n) zeroChunk)

/-- The eight rows of an accumulator, summed. -/
def sumRows (v : FVec F S8x2048 .f32) : FVec F S1x2048 .f32 :=
  shapeCast S1x2048 (multiReduction .add [0] S2048 v 0x00000000#32 reduces_S8x2048_S2048 (.inl rfl) rfl)
    shapeCasts_S2048_S1x2048

/-- The sum of a column's exponentials. -/
def expSum : FVec F S1x2048 .f32 := sumRows (accSum ld (colMax ld) 125)

/-- The collision entropies of the block, as the 16 × 128 rows that are stored. -/
def entropyBlock : FVec F S16x128 .f32 :=
  shapeCast S16x128 (shapeCast S16x128
    (subf (broadcast S1x2048 (Scalar.ofBits .f32 0x00000000#32 : F .f32))
      (mulf (log (addf (divf (sumRows (accSq ld (colMax ld) 125)) (mulf (expSum ld) (expSum ld)))
          (broadcast S1x2048 (Scalar.ofBits .f32 0x2B8CBCCC#32 : F .f32))))
        (broadcast S1x2048 (Named.named κ "inv_ln2" 0x3FB8AA3B#32 : F .f32))))
    shapeCasts_S1x2048_S16x128) shapeCasts_S16x128_S16x128

/-- The errors of the block, as the 16 × 128 rows that are stored. -/
def errorBlock (lab : IVec S1x2048 32) : FVec F S16x128 .f32 :=
  shapeCast S16x128 (shapeCast S16x128
    (subf (broadcast S1x2048 (Scalar.ofBits .f32 0x3F800000#32 : F .f32))
      (divf (sumRows (accLab ld lab (colMax ld) 125)) (expSum ld)))
    shapeCasts_S1x2048_S16x128) shapeCasts_S16x128_S16x128

end StageA

/-! ### Stage B: the sort -/

/-- The first `128 - d` columns are the columns from `d` on, … -/
theorem slices_col_tail {d : ℕ} (hd : d ≤ 128) : S128x128.Slices ![0, d] ⟨2, ![128, 128 - d]⟩ :=
  ⟨rfl, fun a => by fin_cases a <;> simp [Shape.size] <;> omega⟩

/-- … and the columns before `n` are a slice at the origin. -/
theorem slices_col_head {n : ℕ} (hn : n ≤ 128) : S128x128.Slices ![0, 0] ⟨2, ![128, n]⟩ :=
  ⟨rfl, fun a => by fin_cases a <;> simp [Shape.size] <;> omega⟩

/-- The last `d` columns are a slice. -/
theorem slices_col_last {d : ℕ} (hd : d ≤ 128) : S128x128.Slices ![0, 128 - d] ⟨2, ![128, d]⟩ :=
  ⟨rfl, fun a => by fin_cases a <;> simp [Shape.size] <;> omega⟩

/-- `128 - d` columns beside `d` columns are a tile. -/
theorem concatenates_col {d : ℕ} (hd : d ≤ 128) :
    Shape.Concatenates [⟨2, ![128, 128 - d]⟩, ⟨2, ![128, d]⟩] S128x128 1 :=
  ⟨by simp, fun s hs => by
    simp only [List.mem_cons, List.not_mem_nil, or_false] at hs
    rcases hs with rfl | rfl <;> exact ⟨rfl, fun b hb => by fin_cases b <;> simp_all⟩, by
    simp [Shape.size]; omega⟩

/-- `d` columns beside `128 - d` columns are a tile. -/
theorem concatenates_col' {d : ℕ} (hd : d ≤ 128) :
    Shape.Concatenates [⟨2, ![128, d]⟩, ⟨2, ![128, 128 - d]⟩] S128x128 1 :=
  ⟨by simp, fun s hs => by
    simp only [List.mem_cons, List.not_mem_nil, or_false] at hs
    rcases hs with rfl | rfl <;> exact ⟨rfl, fun b hb => by fin_cases b <;> simp_all⟩, by
    simp [Shape.size]; omega⟩

/-- Rows from `d` on are a slice. -/
theorem slices_row_tail {d : ℕ} (hd : d ≤ 128) : S128x128.Slices ![d, 0] ⟨2, ![128 - d, 128]⟩ :=
  ⟨rfl, fun a => by fin_cases a <;> simp [Shape.size] <;> omega⟩

/-- The rows before `n` are a slice. -/
theorem slices_row_head {n : ℕ} (hn : n ≤ 128) : S128x128.Slices ![0, 0] ⟨2, ![n, 128]⟩ :=
  ⟨rfl, fun a => by fin_cases a <;> simp [Shape.size] <;> omega⟩

/-- The last `d` rows are a slice. -/
theorem slices_row_last {d : ℕ} (hd : d ≤ 128) : S128x128.Slices ![128 - d, 0] ⟨2, ![d, 128]⟩ :=
  ⟨rfl, fun a => by fin_cases a <;> simp [Shape.size] <;> omega⟩

/-- `128 - d` rows above `d` rows are a tile. -/
theorem concatenates_row {d : ℕ} (hd : d ≤ 128) :
    Shape.Concatenates [⟨2, ![128 - d, 128]⟩, ⟨2, ![d, 128]⟩] S128x128 0 :=
  ⟨by simp, fun s hs => by
    simp only [List.mem_cons, List.not_mem_nil, or_false] at hs
    rcases hs with rfl | rfl <;> exact ⟨rfl, fun b hb => by fin_cases b <;> simp_all⟩, by
    simp [Shape.size]; omega⟩

/-- `d` rows above `128 - d` rows are a tile. -/
theorem concatenates_row' {d : ℕ} (hd : d ≤ 128) :
    Shape.Concatenates [⟨2, ![d, 128]⟩, ⟨2, ![128 - d, 128]⟩] S128x128 0 :=
  ⟨by simp, fun s hs => by
    simp only [List.mem_cons, List.not_mem_nil, or_false] at hs
    rcases hs with rfl | rfl <;> exact ⟨rfl, fun b hb => by fin_cases b <;> simp_all⟩, by
    simp [Shape.size]; omega⟩

/-- The column number at every position of the tile. -/
def colIota : IVec S128x128 32 := iota .tc S128x128 32 [1] iota_S128x128_d1_w32
/-- The row number at every position of the tile. -/
def rowIota : IVec S128x128 32 := iota .tc S128x128 32 [0] iota_S128x128_d0_w32

/-- Where the bits of `d` are clear in the numbers `x`. -/
def bitClear (x : IVec S128x128 32) (d : ℕ) : IVec S128x128 1 :=
  cmpi .eq (andi x (broadcast S128x128 (BitVec.ofNat 32 d))) (broadcast S128x128 0#32)

/-- Every column exchanged with the column at distance `d`. -/
def colPartner (d : ℕ) (hd : d ≤ 128) (v : FVec F S128x128 .f32) : FVec F S128x128 .f32 :=
  select (bitClear colIota d)
    (concatenate S128x128 1
      [⟨⟨2, ![128, 128 - d]⟩, extractStridedSlice ⟨2, ![128, 128 - d]⟩ ![0, d] v (slices_col_tail hd)⟩,
       ⟨⟨2, ![128, d]⟩, extractStridedSlice ⟨2, ![128, d]⟩ ![0, 0] v (slices_col_head hd)⟩] (concatenates_col hd))
    (concatenate S128x128 1
      [⟨⟨2, ![128, d]⟩, extractStridedSlice ⟨2, ![128, d]⟩ ![0, 128 - d] v (slices_col_last hd)⟩,
       ⟨⟨2, ![128, 128 - d]⟩, extractStridedSlice ⟨2, ![128, 128 - d]⟩ ![0, 0] v
          (slices_col_head (Nat.sub_le _ _))⟩] (concatenates_col' hd))

/-- Every row exchanged with the row at distance `d`. -/
def rowPartner (d : ℕ) (hd : d ≤ 128) (v : FVec F S128x128 .f32) : FVec F S128x128 .f32 :=
  select (bitClear rowIota d)
    (concatenate S128x128 0
      [⟨⟨2, ![128 - d, 128]⟩, extractStridedSlice ⟨2, ![128 - d, 128]⟩ ![d, 0] v (slices_row_tail hd)⟩,
       ⟨⟨2, ![d, 128]⟩, extractStridedSlice ⟨2, ![d, 128]⟩ ![0, 0] v (slices_row_head hd)⟩] (concatenates_row hd))
    (concatenate S128x128 0
      [⟨⟨2, ![d, 128]⟩, extractStridedSlice ⟨2, ![d, 128]⟩ ![128 - d, 0] v (slices_row_last hd)⟩,
       ⟨⟨2, ![128 - d, 128]⟩, extractStridedSlice ⟨2, ![128 - d, 128]⟩ ![0, 0] v
          (slices_row_head (Nat.sub_le _ _))⟩] (concatenates_row' hd))

/-- Two one-bit tiles agreeing. -/
def agree (a b : IVec S128x128 1) : IVec S128x128 1 := xori (xori a b) (constantI S128x128 1 1#1)

/-- Where merge `k` takes the smaller of the two, `low` saying which end of its pair a position is. -/
def takeMin (k : ℕ) (low : IVec S128x128 1) : IVec S128x128 1 :=
  if k < 7 then agree low (bitClear colIota (2 ^ k))
  else if k < 14 then agree low (bitClear rowIota (2 ^ (k - 7)))
  else low

/-- One stage of the network: the smaller value to one end of every pair, the larger to the other. -/
def exchange (take : IVec S128x128 1) (v p : FVec F S128x128 .f32) : FVec F S128x128 .f32 :=
  select take (minimumf v p) (maximumf v p)

/-- `2 ^ (j % 7)` is a distance inside the tile. -/
theorem dist_le (j : ℕ) : 2 ^ (j % 7) ≤ 128 :=
  (Nat.pow_le_pow_right (by decide) (Nat.le_of_lt (Nat.mod_lt j (by decide)))).trans (by decide : 2 ^ 7 ≤ 128)

/-- The stage of merge `k` that compares positions differing in bit `j`. -/
def stageAt (k j : ℕ) (v : FVec F S128x128 .f32) : FVec F S128x128 .f32 :=
  if j < 7 then
    exchange (takeMin k (bitClear colIota (2 ^ (j % 7)))) v (colPartner (2 ^ (j % 7)) (dist_le j) v)
  else
    exchange (takeMin k (bitClear rowIota (2 ^ (j % 7)))) v (rowPartner (2 ^ (j % 7)) (dist_le j) v)

/-- The stages of merge `k` at the bits below `j`, the highest first. -/
def mergeFrom (k : ℕ) : ℕ → FVec F S128x128 .f32 → FVec F S128x128 .f32
  | 0, v => v
  | j + 1, v => mergeFrom k j (stageAt k j v)

/-- The merges `1 … k` of the network. -/
def sortUpTo : ℕ → FVec F S128x128 .f32 → FVec F S128x128 .f32
  | 0, v => v
  | k + 1, v => mergeFrom (k + 1) (k + 1) (sortUpTo k v)

/-! ### Stage B: the bins -/

/-- A row and a column inside the tile are the place of an entry. -/
theorem slices_entry {r c : ℕ} (hr : r < 128) (hc : c < 128) : S128x128.Slices ![r, c] S1x1 :=
  ⟨rfl, fun a => by fin_cases a <;> simp [Shape.size] <;> omega⟩

/-- The entry at position `p`, row after row. -/
def entry (s : FVec F S128x128 .f32) (p : ℕ) : FVec F S1x1 .f32 :=
  extractStridedSlice S1x1 ![p / 128 % 128, p % 128] s
    (slices_entry (Nat.mod_lt _ (by decide)) (Nat.mod_lt _ (by decide)))

/-- The lower of the two ranks an edge lies between. -/
def rankLow (i : ℕ) : ℕ := ![0, 1092, 2184, 3276, 4368, 5461, 6553, 7645, 8737, 9829, 10922, 12014, 13106, 14198,
  15290, 16383] (Fin.ofNat 16 i)
/-- The upper of the two ranks an edge lies between. -/
def rankHigh (i : ℕ) : ℕ := ![0, 1093, 2185, 3277, 4369, 5461, 6554, 7646, 8738, 9830, 10922, 12015, 13107, 14199,
  15291, 16383] (Fin.ofNat 16 i)
/-- The weight of the lower rank, as its word. -/
def weightLow (i : ℕ) : BitVec 32 := ![0x3F800000#32, 0x3F4CC800#32, 0x3F199000#32, 0x3ECCA000#32, 0x3E4C8000#32,
  0x3F800000#32, 0x3F4CA000#32, 0x3F198000#32, 0x3ECC8000#32, 0x3E4C0000#32, 0x3F800000#32, 0x3F4CC000#32,
  0x3F194000#32, 0x3ECC0000#32, 0x3E4C0000#32, 0x3F800000#32] (Fin.ofNat 16 i)
/-- The weight of the upper rank, as its word. -/
def weightHigh (i : ℕ) : BitVec 32 := ![0x00000000#32, 0x3E4CE000#32, 0x3ECCE000#32, 0x3F19B000#32, 0x3F4CE000#32,
  0x00000000#32, 0x3E4D8000#32, 0x3ECD0000#32, 0x3F19C000#32, 0x3F4D0000#32, 0x00000000#32, 0x3E4D0000#32,
  0x3ECD8000#32, 0x3F1A0000#32, 0x3F4D0000#32, 0x00000000#32] (Fin.ofNat 16 i)

/-- Edge `i` of the bins: a weighted sum of the two entries it lies between. -/
def edge (s : FVec F S128x128 .f32) (i : ℕ) : FVec F S1x1 .f32 :=
  addf (mulf (entry s (rankLow i)) (broadcast S1x1 (Scalar.ofBits .f32 (weightLow i) : F .f32)))
    (mulf (entry s (rankHigh i)) (broadcast S1x1 (Scalar.ofBits .f32 (weightHigh i) : F .f32)))

/-- The entries of `u` between two edges; the last bin takes its lower edge too. -/
def inBin (p : CmpFPredicate) (u : FVec F S128x128 .f32) (lo hi : FVec F S1x1 .f32) : IVec S128x128 1 :=
  andi (cmpf p u (broadcastTo S128x128 lo broadcasts_S1x1_S128x128))
    (cmpf .ole u (broadcastTo S128x128 hi broadcasts_S1x1_S128x128))

/-- All entries of a tile, summed. -/
def sumTile (v : FVec F S128x128 .f32) : FVec F S1x1 .f32 :=
  broadcast S1x1 (extractAt ![0, 0, 0] (shapeCast S1x1x1
    (multiReduction .add [1, 2] S1 (shapeCast S1x128x128 v shapeCasts_S128x128_S1x128x128) 0x00000000#32
      reduces_S1x128x128_S1 (.inl rfl) rfl) shapeCasts_S1_S1x1x1) inpos_S1x1x1_p0_0_0)

/-- The number of entries of a bin. -/
def binCount (mask : IVec S128x128 1) : FVec F S1x1 .f32 := sumTile (sitofp .f32 (extui 32 mask natLt_1_32))

/-- The mean of `v` over the bin. -/
def binMean (mask : IVec S128x128 1) (v : FVec F S128x128 .f32) : FVec F S1x1 .f32 :=
  divf (sumTile (select mask v (broadcast S128x128 (Scalar.ofBits .f32 0x00000000#32 : F .f32))))
    (maximumf (binCount mask) (broadcast S1x1 (Scalar.ofBits .f32 0x3F800000#32 : F .f32)))

/-- The gap of one bin: zero if it is empty, else the distance of its two means. -/
def binGap (mask : IVec S128x128 1) (u e : FVec F S128x128 .f32) : FVec F S1x1 .f32 :=
  select (cmpf .ogt (binCount mask) (broadcast S1x1 (Scalar.ofBits .f32 0x00000000#32 : F .f32)))
    (absf (subf (binMean mask u) (binMean mask e))) (broadcast S1x1 (Scalar.ofBits .f32 0x00000000#32 : F .f32))

/-- The gaps of the first `n` bins, summed. -/
def gapsUpTo (u e s : FVec F S128x128 .f32) : ℕ → FVec F S1x1 .f32
  | 0 => broadcast S1x1 (Scalar.ofBits .f32 0x00000000#32 : F .f32)
  | n + 1 => addf (gapsUpTo u e s n)
      (binGap (inBin (if n < 14 then .ogt else .oge) u (edge s n) (edge s (n + 1))) u e)

/-- What the last grid point stores from the two tiles. -/
def calibration (u e : FVec F S128x128 .f32) : FVec F S1x1 .f32 :=
  divf (gapsUpTo u e (sortUpTo 14 u) 15) (broadcast S1x1 (Scalar.ofBits .f32 0x41700000#32 : F .f32))

end Cert.KernelIdeal.Hand

end
-- ==== Proof.Blocks.lean ====
module

public import proofs.«01_k».proof.Proof.Gen.KernelIdeal.Frame
public import proofs.«01_k».proof.Proof.Gen.KernelIdeal.Skeleton
public import proofs.«01_k».proof.Proof.Spec
public import Idealize.ShloMosaic.Lib.WholeRead

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

/-- Eight rows starting at a multiple of eight lie inside the block. -/
theorem chunk_inb {n : ℕ} (h : 8 * n + 8 ≤ 1000) : ∀ a, (![8 * n, 0] : Fin 2 → ℕ) a + S8x2048.size a ≤ S1000x2048.size a :=
  fun a => by fin_cases a <;> simp [Shape.size] <;> omega

/-- Chunk `n` of a block. -/
def chunkOf (x : Vec F S1000x2048 .f32) (n : ℕ) : FVec F S8x2048 .f32 :=
  fun j => x fun a => match a with
    | 0 => ⟨(8 * n + (j 0).val) % 1000, Nat.mod_lt _ (by decide)⟩
    | 1 => j 1

/-- Chunk `n` as loaded from a block held at `x`. -/
def loadChunk (m : Memref sig .tc .vmem S1000x2048 .f32) (hm : m.IsWhole) (x : Vec F S1000x2048 .f32) (n : ℕ) :
    FVec F S8x2048 .f32 :=
  if h : 8 * n + 8 ≤ 1000 then
    View.readAt (Elt F) m.view (Rect.unit (s := S1000x2048) ![8 * n, 0] S8x2048.size (chunk_inb h)).toLoadRect (hm.unread x)
  else chunkOf x n

/-- The labels as loaded from a block held at `x`. -/
def loadLab (m : Memref sig .tc .vmem S1x2048 .i32) (hm : m.IsWhole) (x : Vec F S1x2048 .i32) : IVec S1x2048 32 :=
  View.readAt (Elt F) m.view (Rect.unit (s := S1x2048) ![0, 0] S1x2048.size inb_S1x2048_S1x2048_0_0).toLoadRect (hm.unread x)

/-- Loading a chunk of a block gives the chunk. -/
theorem loadChunk_eq (m : Memref sig .tc .vmem S1000x2048 .f32) (hm : m.IsWhole) (x : Vec F S1000x2048 .f32) :
    loadChunk m hm x = chunkOf x := by
  funext n
  unfold loadChunk
  split_ifs with h
  · funext j
    rw [hm.readAt_unread]
    unfold chunkOf
    refine congrArg x (funext fun a => Fin.ext ?_)
    match a with
    | 0 =>
      have hj : (j 0).val < 8 := (j 0).isLt
      show 8 * n + 1 * (j 0).val = (8 * n + (j 0).val) % 1000
      rw [Nat.mod_eq_of_lt (by omega)]; omega
    | 1 => show 0 + 1 * (j 1).val = (j 1).val; omega
  · rfl

/-- Loading the labels of a block gives them. -/
theorem loadLab_eq (m : Memref sig .tc .vmem S1x2048 .i32) (hm : m.IsWhole) (x : Vec F S1x2048 .i32) :
    loadLab m hm x = x := by
  funext j
  unfold loadLab
  rw [hm.readAt_unread]
  refine congrArg x (funext fun a => Fin.ext ?_)
  match a with
  | 0 => show 0 + 1 * (j 0).val = (j 0).val; omega
  | 1 => show 0 + 1 * (j 1).val = (j 1).val; omega

/-- The rows grid point `i` writes, over the tile `u`. -/
def putRows (i : grid0.Coords) (u : Vec F S128x128 .f32) (b : FVec F S16x128 .f32) : Vec F S128x128 .f32 :=
  (Rect.unit (s := S128x128) (k0_off1 i) S16x128.size (k0_off1_inb i)).overlay u b

/-- A whole tile after one store of a rectangle reads as the tile with the rectangle's values put in. -/
theorem read_write_rect {s : Shape} (m : Memref sig .tc .vmem s .f32) (hm : m.IsWhole) (r : Rect s) (u : Vec F s .f32)
    (b : r.shape.Idx → Elt F .f32) :
    View.read (Elt F) m.view (m.view.writes (Elt F) (hm.unread u) [⟨r, b⟩]) = r.overlay u b := by
  funext y
  by_cases hy : y ∈ r.set
  · rw [← Rect.map_emb_univ] at hy
    obtain ⟨x, -, rfl⟩ := Finset.mem_map.mp hy
    exact (View.read_writes_cons_emb _ _ _ _ _ x).trans (Rect.overlay_emb _ u b x).symm
  · exact (View.read_writes_cons_miss _ _ _ _ _ hy).trans
      ((congrFun (hm.read_unread u) y).trans (Rect.overlay_of_not_mem _ u b hy).symm)

/-- A tile after a grid point's store of rows reads as the tile with those rows put in. -/
theorem read_put (m : Memref sig .tc .vmem S128x128 .f32) (hm : m.IsWhole) (i : grid0.Coords) (u : Vec F S128x128 .f32)
    (b : FVec F S16x128 .f32) :
    View.read (Elt F) m.view (m.view.writes (Elt F) (hm.unread u)
      [⟨Rect.unit (s := S128x128) (k0_off1 i) S16x128.size (k0_off1_inb i), b⟩]) = putRows i u b :=
  read_write_rect m hm (Rect.unit (s := S128x128) (k0_off1 i) S16x128.size (k0_off1_inb i)) u b

/-- Loading the whole tile after a grid point's store of rows gives the tile with those rows put in. -/
theorem readAt_put (m : Memref sig .tc .vmem S128x128 .f32) (hm : m.IsWhole) (i : grid0.Coords) (u : Vec F S128x128 .f32)
    (b : FVec F S16x128 .f32) :
    View.readAt (Elt F) m.view (Rect.unit (s := S128x128) ![0, 0] S128x128.size inb_S128x128_S128x128_0_0).toLoadRect
      (m.view.writes (Elt F) (hm.unread u)
        [⟨Rect.unit (s := S128x128) (k0_off1 i) S16x128.size (k0_off1_inb i), b⟩]) = putRows i u b := by
  funext j
  refine Eq.trans ?_ (congrFun (read_put m hm i u b) j)
  refine congrArg (View.read (Elt F) m.view (m.view.writes (Elt F) (hm.unread u)
        [⟨Rect.unit (s := S128x128) (k0_off1 i) S16x128.size (k0_off1_inb i), b⟩])) (funext fun a => Fin.ext ?_)
  match a with
  | 0 => show 0 + 1 * (j 0).val = (j 0).val; omega
  | 1 => show 0 + 1 * (j 1).val = (j 1).val; omega

/-- Replacing the only entry of a one-entry array replaces the array. -/
theorem overlay_one (o b : Vec F S1x1 .f32) :
    (Rect.unit (s := S1x1) ![0, 0] S1x1.size inb_S1x1_S1x1_0_0).overlay o b = b := by
  funext j
  have h : (Rect.unit (s := S1x1) ![0, 0] S1x1.size inb_S1x1_S1x1_0_0).emb j = j := by
    funext a
    refine Fin.ext ?_
    match a with
    | 0 => show 0 + 1 * (j 0).val = (j 0).val; omega
    | 1 => show 0 + 1 * (j 1).val = (j 1).val; omega
  conv_lhs => rw [← h]
  exact Rect.overlay_emb (Rect.unit (s := S1x1) ![0, 0] S1x1.size inb_S1x1_S1x1_0_0) o b j

end Cert.KernelIdeal.Hand
end
-- ==== Proof.RunEarly.lean ====
module

public import proofs.«01_k».proof.Proof.Gen.KernelIdeal.Frame
public import proofs.«01_k».proof.Proof.Gen.KernelIdeal.Skeleton
public import proofs.«01_k».proof.Proof.Blocks
public import Idealize.ShloMosaic.Lib.WholeRead

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
set_option sl_exec.resultNames true in
/-- A grid point before the last: its rows of the two scratch tiles become the entropies and the errors of its
block. -/
theorem run_early (c : Dev nD) (i : grid0.Coords) (arg1 : Memref sig .tc .vmem S1000x2048 .f32) (harg1 : arg1.IsWhole) (arg2 : Memref sig .tc .vmem S1x2048 .i32) (harg2 : arg2.IsWhole) (arg3 : Memref sig .tc .vmem S1x1 .f32) (harg3 : arg3.IsWhole) (arg4 : Memref sig .tc .vmem S128x128 .f32) (harg4 : arg4.IsWhole) (arg5 : Memref sig .tc .vmem S128x128 .f32) (harg5 : arg5.IsWhole) (hc0 : ¬ k0_cond1 i = 1#1)
    (x0 : Vec F S1000x2048 .f32) (x1 : Vec F S1x2048 .i32) (u e : Vec F S128x128 .f32) :
      ∀ (E : Set ℕ) (K : PUnit → sProp 𝕄),
        iprop(owns (c : Thread nD τ) arg1 fullShare x0 ∗ owns (c : Thread nD τ) arg2 fullShare x1 ∗ owns (c : Thread nD τ) arg4 fullShare u ∗ owns (c : Thread nD τ) arg5 fullShare e
            ∗ (iprop(owns (c : Thread nD τ) arg1 fullShare x0 ∗ owns (c : Thread nD τ) arg2 fullShare x1 ∗ owns (c : Thread nD τ) arg4 fullShare (putRows i u (entropyBlock (chunkOf x0))) ∗ owns (c : Thread nD τ) arg5 fullShare (putRows i e (errorBlock (chunkOf x0) x1))) -∗ K ⟨⟩))
          ⊢ wp frame (wpE (defs₀ (F := F)) Variants.none c none) E (cc0__fused_kernel i arg1 harg1 arg2 harg2 arg3 harg3 arg4 harg4 arg5 harg5) K := by
    intro E K
    simp only [cc0__fused_kernel_eq_skeleton]; unfold cc0__fused_kernel_skel
    simp only [k0_part110_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton]
    unfold owns
    iintro ⟨⟨%f0, %hf0, H0⟩, ⟨%f1, %hf1, H1⟩, ⟨%fs0, %hs0, HS0⟩, ⟨%fs1, %hs1, HS1⟩, Hk⟩
    obtain rfl := harg1.eq_unread hf0; obtain rfl := harg2.eq_unread hf1
    obtain rfl := harg4.eq_unread hs0; obtain rfl := harg5.eq_unread hs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [HS0]
    · iexists _; isplitr; swap; · iexact HS0
      ipureintro
      rw [read_put, ← loadChunk_eq arg1 harg1 x0]
      refine congrArg (putRows i u) ?_
      rfl
    iexists _; isplitr; swap; · iexact HS1
    ipureintro
    rw [read_put, ← loadChunk_eq arg1 harg1 x0]
    conv_rhs => rw [← loadLab_eq arg2 harg2 x1]
    refine congrArg (putRows i e) ?_
    rfl

end Cert.KernelIdeal.Hand

end
-- ==== Proof.RunLate.lean ====
module

public import proofs.«01_k».proof.Proof.Gen.KernelIdeal.Frame
public import proofs.«01_k».proof.Proof.Gen.KernelIdeal.Skeleton
public import proofs.«01_k».proof.Proof.Blocks
public import Idealize.ShloMosaic.Lib.WholeRead

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

set_option maxHeartbeats 4000000 in
set_option sl_exec.resultNames true in
/-- The last grid point: its rows of the two scratch tiles become the entropies and the errors of its block, and the
output is the calibration gap of the two tiles. -/
theorem run_late (c : Dev nD) (i : grid0.Coords) (arg1 : Memref sig .tc .vmem S1000x2048 .f32) (harg1 : arg1.IsWhole) (arg2 : Memref sig .tc .vmem S1x2048 .i32) (harg2 : arg2.IsWhole) (arg3 : Memref sig .tc .vmem S1x1 .f32) (harg3 : arg3.IsWhole) (arg4 : Memref sig .tc .vmem S128x128 .f32) (harg4 : arg4.IsWhole) (arg5 : Memref sig .tc .vmem S128x128 .f32) (harg5 : arg5.IsWhole) (hc0 : k0_cond1 i = 1#1)
    (x0 : Vec F S1000x2048 .f32) (x1 : Vec F S1x2048 .i32) (o : Vec F S1x1 .f32) (u e : Vec F S128x128 .f32) :
      ∀ (E : Set ℕ) (K : PUnit → sProp 𝕄),
        iprop(owns (c : Thread nD τ) arg1 fullShare x0 ∗ owns (c : Thread nD τ) arg2 fullShare x1 ∗ owns (c : Thread nD τ) arg3 fullShare o ∗ owns (c : Thread nD τ) arg4 fullShare u ∗ owns (c : Thread nD τ) arg5 fullShare e
            ∗ (iprop(owns (c : Thread nD τ) arg1 fullShare x0 ∗ owns (c : Thread nD τ) arg2 fullShare x1 ∗ owns (c : Thread nD τ) arg3 fullShare (calibration (putRows i u (entropyBlock (chunkOf x0))) (putRows i e (errorBlock (chunkOf x0) x1))) ∗ owns (c : Thread nD τ) arg4 fullShare (putRows i u (entropyBlock (chunkOf x0))) ∗ owns (c : Thread nD τ) arg5 fullShare (putRows i e (errorBlock (chunkOf x0) x1))) -∗ K ⟨⟩))
          ⊢ wp frame (wpE (defs₀ (F := F)) Variants.none c none) E (cc0__fused_kernel i arg1 harg1 arg2 harg2 arg3 harg3 arg4 harg4 arg5 harg5) K := by
    intro E K
    simp only [cc0__fused_kernel_eq_skeleton]; unfold cc0__fused_kernel_skel
    simp only [k0_part110_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton]
    unfold owns
    iintro ⟨⟨%f0, %hf0, H0⟩, ⟨%f1, %hf1, H1⟩, ⟨%f2, %hf2, H2⟩, ⟨%fs0, %hs0, HS0⟩, ⟨%fs1, %hs1, HS1⟩, Hk⟩
    obtain rfl := harg1.eq_unread hf0; obtain rfl := harg2.eq_unread hf1
    obtain rfl := harg3.eq_unread hf2; obtain rfl := harg4.eq_unread hs0; obtain rfl := harg5.eq_unread hs1
    sl_exec (disch := first | sl_exact hc0)
    sl_step
    have h4 : run_late.sl.v2414 c i arg1 harg1 arg4 harg4 x0 u = putRows i u (entropyBlock (chunkOf x0)) := by
      rw [← loadChunk_eq arg1 harg1 x0]
      exact readAt_put arg4 harg4 i u _
    have h5 : run_late.sl.v2415 c i arg1 harg1 arg2 harg2 arg5 harg5 x0 x1 e = putRows i e (errorBlock (chunkOf x0) x1) := by
      rw [← loadChunk_eq arg1 harg1 x0]
      conv_rhs => rw [← loadLab_eq arg2 harg2 x1]
      exact readAt_put arg5 harg5 i e _
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; swap; · iexact H2
      ipureintro
      rw [← h4, ← h5]
      refine (read_write_rect arg3 harg3 (Rect.unit (s := S1x1) ![0, 0] S1x1.size inb_S1x1_S1x1_0_0) o _).trans ?_
      rw [overlay_one]
      rfl
    isplitl [HS0]
    · iexists _; isplitr; swap; · iexact HS0
      ipureintro
      refine (read_put arg4 harg4 i u _).trans ?_
      rw [← loadChunk_eq arg1 harg1 x0]
      rfl
    iexists _; isplitr; swap; · iexact HS1
    ipureintro
    refine (read_put arg5 harg5 i e _).trans ?_
    rw [← loadChunk_eq arg1 harg1 x0]
    conv_rhs => rw [← loadLab_eq arg2 harg2 x1]
    rfl

end Cert.KernelIdeal.Hand

end
-- ==== Proof.Run.lean ====
module

public import proofs.«01_k».proof.Proof.Gen.KernelIdeal.Frame
public import proofs.«01_k».proof.Proof.Gen.KernelIdeal.Skeleton
public import proofs.«01_k».proof.Proof.RunEarly
public import proofs.«01_k».proof.Proof.RunLate
public import Idealize.ShloMosaic.Lib.WholeRead
public import Idealize.ShloMosaic.Lib.Claim
public import Idealize.ShloMosaic.Lib.Pipeline.ValueKit.Geometry

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ### What the scratch tiles hold -/

/-- The logits' block at a grid point. -/
def logitsAt (c : Dev nD) (t : Fin cfg0.N) : Vec F S1000x2048 .f32 := iblk m c 0 t
/-- The labels' block at a grid point. -/
def labelsAt (c : Dev nD) (t : Fin cfg0.N) : Vec F S1x2048 .i32 := iblk m c 1 t

/-- The grid point that writes row `r` of the tiles. -/
def pointOf (r : Fin 128) : Fin cfg0.N := ⟨r.val / 16, by rw [show cfg0.N = 8 from N_0]; omega⟩

/-- Where a position of the tile lies in the rows its grid point writes. -/
def within (y : S128x128.Idx) : S16x128.Idx := fun a => match a with
  | 0 => ⟨(y 0).val % 16, Nat.mod_lt _ (by decide)⟩
  | 1 => y 1

/-- The tile of entropies once every grid point has written its rows. -/
def entropies (c : Dev nD) : Vec F S128x128 .f32 :=
  fun y => entropyBlock (chunkOf (logitsAt m c (pointOf (y 0)))) (within y)
/-- The tile of errors once every grid point has written its rows. -/
def errors (c : Dev nD) : Vec F S128x128 .f32 :=
  fun y => errorBlock (chunkOf (logitsAt m c (pointOf (y 0)))) (labelsAt m c (pointOf (y 0))) (within y)

/-- The rows of the grid points before `n` agree. -/
def AgreeBelow (n : ℕ) (G d : Vec F S128x128 .f32) : Prop := ∀ y : S128x128.Idx, (y 0).val < 16 * n → d y = G y

/-- A grid point's store starts at its own sixteen rows. -/
theorem off1_val (t : Fin cfg0.N) : k0_off1 (grid0.coords t) 0 = 16 * t.val := by
  have ht : t.val < 8 := Nat.lt_of_lt_of_eq t.isLt N_0
  have e0 : (grid0.coords t 0).val = t.val / 1 % 8 := Pipeline.Grid.coords_val t 0 (by decide) rfl
  have : ∀ n, n < 8 → (Scalar.indexCast (Scalar.muli (BitVec.ofNat 32 n) 16#32)).toNat = 16 * n := by decide
  have h := this _ ht
  show (Scalar.indexCast (Scalar.muli (BitVec.ofNat 32 (grid0.coords t 0).val) 16#32)).toNat = _
  rw [e0, Nat.div_one, Nat.mod_eq_of_lt ht, h]

/-- The branch to stage B is taken at the last point only. -/
theorem cond1_iff (t : Fin cfg0.N) : k0_cond1 (grid0.coords t) = 1#1 ↔ t.val % 8 = 7 := by
  have ht : t.val < 8 := Nat.lt_of_lt_of_eq t.isLt N_0
  have e0 : (grid0.coords t 0).val = t.val / 1 % 8 := Pipeline.Grid.coords_val t 0 (by decide) rfl
  simp only [k0_cond1, e0]
  word_cmp

/-- Storing a point's rows extends the agreement by that point. -/
theorem agree_put {G d : Vec F S128x128 .f32} {b : FVec F S16x128 .f32} (t : Fin cfg0.N) (h : AgreeBelow t.val G d)
    (hb : ∀ y : S128x128.Idx, (y 0).val / 16 = t.val → b (within y) = G y) :
    AgreeBelow (t.val + 1) G (putRows (grid0.coords t) d b) := by
  intro y hy
  have ho := off1_val t
  by_cases hlt : (y 0).val < 16 * t.val
  · refine Eq.trans ?_ (h y hlt)
    refine Rect.overlay_of_not_mem _ _ _ ?_
    exact Rect.not_mem_set_of_axis _ y 0 (16 * t.val) 16 ho rfl rfl (Or.inl hlt)
  · rw [← hb y (by omega)]
    have he : (Rect.unit (s := S128x128) (k0_off1 (grid0.coords t)) S16x128.size (k0_off1_inb (grid0.coords t))).emb
        (within y) = y := by
      refine Rect.emb_eq_of_coords _ _ _ fun a => ?_
      match a with
      | 0 =>
        show (y 0).val = k0_off1 (grid0.coords t) 0 + 1 * ((y 0).val % 16)
        rw [ho]; omega
      | 1 =>
        show (y 1).val = 0 + 1 * (y 1).val
        omega
    conv_lhs => rw [← he]
    exact Rect.overlay_emb (Rect.unit (s := S128x128) (k0_off1 (grid0.coords t)) S16x128.size
      (k0_off1_inb (grid0.coords t))) d b (within y)

/-- Full agreement is equality. -/
theorem eq_of_agree {G d : Vec F S128x128 .f32} (h : AgreeBelow 8 G d) : d = G :=
  funext fun y => h y (y 0).isLt

/-- The point of a row. -/
theorem pointOf_eq (y : S128x128.Idx) (t : Fin cfg0.N) (h : (y 0).val / 16 = t.val) : pointOf (y 0) = t := Fin.ext h

/-! ### The pipeline's proof data -/

/-- The staging memrefs of a point, and the scratch tiles. -/
abbrev ms0_0 (t : Fin cfg0.N) : Memref sig .tc .vmem S1000x2048 .f32 := win0_0.stage (cfg0.slots t 0)
abbrev ms0_1 (t : Fin cfg0.N) : Memref sig .tc .vmem S1x2048 .i32 := win0_1.stage (cfg0.slots t 1)
abbrev ms0_2 (t : Fin cfg0.N) : Memref sig .tc .vmem S1x1 .f32 := win0_2.stage (cfg0.slots t 2)
abbrev scM0_0 : Memref sig .tc .vmem S128x128 .f32 := Memref.whole cc0_scratch0
abbrev scM0_1 : Memref sig .tc .vmem S128x128 .f32 := Memref.whole cc0_scratch1

/-- What is held before point `n`: both tiles, their first rows written, and the generator register. -/
def inv (c : Dev nD) (n : ℕ) : sProp 𝕄 :=
  iprop(iprop((∃ d, ⌜AgreeBelow n (entropies m c) d⌝ ∗ owns (c : Thread nD τ) scM0_0 fullShare d)
    ∗ (∃ d, ⌜AgreeBelow n (errors m c) d⌝ ∗ owns (c : Thread nD τ) scM0_1 fullShare d)) ∗ (∃ r, prngReg c r))

/-- The launch's invariant: both scratch tiles at some contents, and the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- The proof data: an input's buffer holds its block, the output's holds the calibration gap. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => calibration (entropies m c) (errors m c)
  Φ t := inv m c t.val
  q _ := fullShare
  owed _ := 0

/-- The arrays start as the region finds them. -/
theorem A_eq (c : Dev nD) (w : Fin cfg0.W) : (dats m 0 c).A w = V m c (Pipeline.arrRef spec0 w) := by
  dsimp only [dats]
/-- The block of logits is left as staged. -/
theorem after0_0 (c : Dev nD) (t : Fin cfg0.N) : (dats m 0 c).after 0 t = iblk m c 0 t := by dsimp only [dats]
/-- The block of labels is left as staged. -/
theorem after0_1 (c : Dev nD) (t : Fin cfg0.N) : (dats m 0 c).after 1 t = iblk m c 1 t := by dsimp only [dats]
/-- The result cell holds the calibration. -/
theorem after0_2 (c : Dev nD) (t : Fin cfg0.N) : (dats m 0 c).after 2 t = calibration (entropies m c) (errors m c) := by
  dsimp only [dats]
/-- The state kept between points is the invariant. -/
theorem Phi_eq (c : Dev nD) (t : Fin (cfg0.N + 1)) : (dats m 0 c).Φ t = inv m c t.val := by dsimp only [dats]

/-- A point finds its block of logits. -/
theorem before0_0 (c : Dev nD) (t : Fin cfg0.N) (d) : (dats m 0 c).before 0 t d = iblk m c 0 t :=
  before0_0_of m (dats m 0 c) (A_eq m c 0) (after0_0 m c) t d
/-- A point finds its block of labels. -/
theorem before0_1 (c : Dev nD) (t : Fin cfg0.N) (d) : (dats m 0 c).before 1 t d = iblk m c 1 t :=
  before0_1_of m (dats m 0 c) (A_eq m c 1) (after0_1 m c) t d

/-- The logits are staged at every point. -/
theorem liveAt0_0 : ∀ t : Fin cfg0.N, cfg0.idle 0 (grid0.coords t) = false := fun _ => rfl
/-- The labels are staged at every point. -/
theorem liveAt0_1 : ∀ t : Fin cfg0.N, cfg0.idle 1 (grid0.coords t) = false := fun _ => rfl
/-- The output is written at the last point … -/
theorem liveAt0_2 (t : Fin cfg0.N) (h : t.val % 8 = 7) : cfg0.idle 2 (grid0.coords t) = false := by
  show (!(k0_cond1 (grid0.coords t) == 1#1)) = false
  rw [(cond1_iff t).mpr h]; rfl
/-- … and left alone before it. -/
theorem idleAt0_2 (t : Fin cfg0.N) (h : ¬ t.val % 8 = 7) : cfg0.idle 2 (grid0.coords t) = true := by
  show (!(k0_cond1 (grid0.coords t) == 1#1)) = true
  have : ¬ k0_cond1 (grid0.coords t) = 1#1 := fun hc => h ((cond1_iff t).mp hc)
  simp [this]
/-- The result is written back at the last point only. -/
theorem noFlush0_2 (t : Fin cfg0.N) (h : ¬ t.val % 8 = 7) : (cfg0.win 2).flush t = false := by
  rw [Bool.eq_false_iff]; exact fun hf => h ((flush0_2 t).mp hf)

/-! ### The body at a point -/

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t)

set_option maxHeartbeats 1600000 in
/-- The body at any point extends both tiles by its rows; at the last point it leaves the calibration gap. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl, Phi_eq, Phi_eq]
  rw [show (t.castSucc : Fin (cfg0.N + 1)).val = t.val from rfl, show (t.succ : Fin (cfg0.N + 1)).val = t.val + 1 from rfl]
  unfold inv
  rw [show (dats m 0 c).leavesExact 0 t = owns (c : Thread nD τ) (ms0_0 t) fullShare ((dats m 0 c).after 0 t) from by
      unfold Dat.leavesExact; rw [liveAt0_0 t], after0_0]
  rw [show (dats m 0 c).leavesExact 1 t = owns (c : Thread nD τ) (ms0_1 t) fullShare ((dats m 0 c).after 1 t) from by
      unfold Dat.leavesExact; rw [liveAt0_1 t], after0_1]
  have hU : ∀ d, AgreeBelow t.val (entropies m c) d →
      AgreeBelow (t.val + 1) (entropies m c) (putRows (grid0.coords t) d (entropyBlock (chunkOf (logitsAt m c t)))) :=
    fun d hd => agree_put t hd fun y hy => by unfold entropies; rw [pointOf_eq y t hy]
  have hE : ∀ d, AgreeBelow t.val (errors m c) d →
      AgreeBelow (t.val + 1) (errors m c)
        (putRows (grid0.coords t) d (errorBlock (chunkOf (logitsAt m c t)) (labelsAt m c t))) :=
    fun d hd => agree_put t hd fun y hy => by unfold errors; rw [pointOf_eq y t hy]
  have hN : t.val < 8 := lt_of_lt_of_eq t.isLt (show cfg0.N = 8 from N_0)
  by_cases h0 : t.val % 8 = 7
  · rw [show (dats m 0 c).leavesExact 2 t = owns (c : Thread nD τ) (ms0_2 t) fullShare ((dats m 0 c).after 2 t) from by
      unfold Dat.leavesExact; rw [liveAt0_2 t h0], after0_2]
    have h7 : t.val + 1 = 8 := by omega
    iintro ⟨⟨⟨⟨%u, %hu, HS0⟩, ⟨%e, %he, HS1⟩⟩, Hg⟩, Ho, ⟨%d0, H0⟩, ⟨%d1, H1⟩, ⟨%d2, H2⟩⟩
    have hu' := hU u hu
    have he' := hE e he
    have hcal : calibration (putRows (grid0.coords t) u (entropyBlock (chunkOf (logitsAt m c t))))
        (putRows (grid0.coords t) e (errorBlock (chunkOf (logitsAt m c t)) (labelsAt m c t)))
        = calibration (entropies m c) (errors m c) := by
      rw [h7] at hu' he'
      rw [eq_of_agree hu', eq_of_agree he']
    rw [← hcal]
    iapply ((run_late c (grid0.coords t) _ _ _ _ _ _ _ _ _ _ ((cond1_iff t).mpr h0) (iblk m c 0 t) (iblk m c 1 t) _ u e) Set.univ _)
    isplitl [H0]; · iexact H0
    isplitl [H1]; · iexact H1
    isplitl [H2]; · iexact H2
    isplitl [HS0]; · iexact HS0
    isplitl [HS1]; · iexact HS1
    iintro ⟨H0, H1, H2, HS0, HS1⟩
    isplitl [HS0 HS1 Hg]
    · isplitl [HS0 HS1]
      · isplitl [HS0]
        · iexists _; isplitr; swap; · iexact HS0
          ipureintro; exact hu'
        iexists _; isplitr; swap; · iexact HS1
        ipureintro; exact he'
      iexact Hg
    isplitl [Ho]; · iexact Ho
    isplitl [H0]; · iexact H0
    isplitl [H1]; · iexact H1
    iexact H2
  · rw [(dats m 0 c).leavesExact_idle 2 t (idleAt0_2 t h0) (noFlush0_2 t h0)]
    iintro ⟨⟨⟨⟨%u, %hu, HS0⟩, ⟨%e, %he, HS1⟩⟩, Hg⟩, Ho, ⟨%d0, H0⟩, ⟨%d1, H1⟩, H2⟩
    have hu' := hU u hu
    have he' := hE e he
    iapply ((run_early c (grid0.coords t) _ _ _ _ _ _ _ _ _ _ (fun h => h0 ((cond1_iff t).mp h)) (iblk m c 0 t) (iblk m c 1 t) u e) Set.univ _)
    isplitl [H0]; · iexact H0
    isplitl [H1]; · iexact H1
    isplitl [HS0]; · iexact HS0
    isplitl [HS1]; · iexact HS1
    iintro ⟨H0, H1, HS0, HS1⟩
    isplitl [HS0 HS1 Hg]
    · isplitl [HS0 HS1]
      · isplitl [HS0]
        · iexists _; isplitr; swap; · iexact HS0
          ipureintro; exact hu'
        iexists _; isplitr; swap; · iexact HS1
        ipureintro; exact he'
      iexact Hg
    isplitl [Ho]; · iexact Ho
    isplitl [H0]; · iexact H0
    isplitl [H1]; · iexact H1
    iexact H2

/-- The body table's row at a point is the body at that point. -/
theorem defs₀_row (t : Fin cfg0.N) :
    defs₀ (F := F) .tc cfg0.body (cfg0.bodyArgs t (cfg0.slots t)) = bodyAt0 t := by
  unfold defs₀; rw [Defs.onTc_tc]

/-- The body obligation at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ### The launch -/

/-- Before the first point nothing is asked of the tiles. -/
theorem inv_zero (c : Dev nD) : (Pipeline.ΦA spec0 c : sProp 𝕄) ⊢ inv m c 0 := by
  rw [PhiA0_eq]; unfold inv
  iintro ⟨⟨⟨%u, HS0⟩, ⟨%e, HS1⟩⟩, Hg⟩
  isplitl [HS0 HS1]
  · isplitl [HS0]
    · iexists _; isplitr; swap; · iexact HS0
      ipureintro; exact fun y hy => absurd hy (by omega)
    iexists _; isplitr; swap; · iexact HS1
    ipureintro; exact fun y hy => absurd hy (by omega)
  iexact Hg

/-- What is held is what the launch takes back. -/
theorem inv_forget (c : Dev nD) (n : ℕ) : inv m c n ⊢ (Pipeline.ΦA spec0 c : sProp 𝕄) := by
  rw [PhiA0_eq]; unfold inv
  iintro ⟨⟨⟨%u, %hu, HS0⟩, ⟨%e, %he, HS1⟩⟩, Hg⟩
  isplitl [HS0 HS1]
  · isplitl [HS0]
    · iexists _; iexact HS0
    iexists _; iexact HS1
  iexact Hg

set_option backward.isDefEq.respectTransparency.types false in
set_option maxHeartbeats 800000 in
/-- The launch: every execution ends with the arrays and the other buffers at the named contents and every counter zero. -/
theorem run_main_quiescent : θ_run defs (onTc (τ := τ) (main (F := F))) (s₀ m ρ) (fun r =>
    Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m)
    (hin := fun c => by rw [Phi_eq]; exact inv_zero m c) (hout := fun c => by rw [Phi_eq]; exact inv_forget m c _)

/-- The frame: the arguments end unchanged and every counter is zero. -/
theorem frame_ideal : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

/-- The result array of the region after the run. -/
theorem arrAt_out (c : Dev nD) : (dats m 0 c).arrAt 2 cfg0.N = calibration (entropies m c) (errors m c) := by
  refine (dats m 0 c).arrAt_eq_of_after_last 2 ⟨7, by rw [show cfg0.N = 8 from N_0]; decide⟩ (by decide +kernel) _ fun j => ?_
  rw [after0_2]
  rfl

/-- The program's result: the region's one cell, read as a scalar. -/
theorem tail_out (c : Dev nD) : Pipeline.afterTail₀ cfgs (dats m) 0 (V0 m) [hostOps1] c main_v3
    = shapeCast S_ (calibration (entropies m c) (errors m c)) shapeCasts_S1x1_S_ := by
  have h := Pipeline.withArrays_arr spec0 launch0.win.arr_inj c (V0 m c) (fun w => (dats m 0 c).arrAt w cfg0.N) 2
  rw [arrAt_out] at h
  unfold Pipeline.afterTail₀
  simp only [hostOps1, List.flatten_cons, List.flatten_nil, List.append_nil]
  rw [← h]
  rfl

end Cert.KernelIdeal.Hand

end
-- ==== Proof.Bits.lean ====
module

public import proofs.«01_k».proof.Proof.Gen.Kernel
public import proofs.«01_k».proof.Proof.Run
public import Idealize.ShloMosaic.PureOps.Ideal
public import Idealize.ShloMosaic.PureOps.BitExact

@[expose] public section

set_option maxRecDepth 16384

noncomputable section

namespace Cert.Kernel.Hand

open Idealize.ShloMosaic Idealize.ShloMosaic.TcCoe Idealize.SL.Sem
open Idealize.ShloMosaic.Rounds

/-- At floats as bit patterns a named constant is the pattern it was printed with. -/
abbrev namedBits : Named Bits where
  named _ _ {φ} bits := FloatOps.ofBits φ bits

attribute [local instance] namedBits

/-- The two body tables are one. -/
theorem defs₀_eq : Cert.Kernel.defs₀ (F := Bits) = Cert.KernelIdeal.defs₀ (F := Bits) := by
  funext pr ℓ a
  cases pr with
  | tc =>
    match ℓ, a with
    | 0, (t, s) => rfl
    | ⟨n + 1, h⟩, _ => exact absurd h (by omega)
  | scScalar _ => rfl
  | scVector _ _ => rfl

/-- So are the tables with the launch's own labels, -/
theorem defs_eq : Cert.Kernel.defs (F := Bits) = Cert.KernelIdeal.defs (F := Bits) := by
  unfold Cert.Kernel.defs Cert.KernelIdeal.defs
  exact congrArg (Pipeline.defs Cert.KernelIdeal.pcfgs) defs₀_eq

/-- and the programs. -/
theorem main_eq : Cert.Kernel.main (F := Bits) = Cert.KernelIdeal.main (F := Bits) := rfl

set_option backward.isDefEq.respectTransparency.types false in
set_option maxHeartbeats 4000000 in
/-- The kernel as printed runs without fault, leaves its arguments unchanged and ends with every counter at zero: it is
the idealized program at bit patterns, its one named constant being its pattern there. -/
theorem frame_bits (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) := by
  rw [defs_eq, main_eq]
  exact Cert.KernelIdeal.Hand.frame_ideal (F := Bits) m ρ

end Cert.Kernel.Hand

end
-- ==== Proof.Sample.lean ====
module

public import Idealize.ShloMosaic.PureOps.Ideal.Laws
public import Idealize.ShloMosaic.Lib.IdealHost

@[expose] public section

/-!
One sample: the collision entropy and the error of a row of 1000 scores, as the kernel spells them and as the
reference spells them, over the extended reals.

The kernel divides the sum of squared exponentials by the squared sum and multiplies the logarithm by `1 / log 2`; the
reference squares the quotients and divides by `log 2`. With a finite maximum every exponential is a real number of
`[0, 1]` and their sum is a real number from one up, so the two agree.
-/

noncomputable section

namespace Cert.Sample

open Idealize.ShloMosaic

variable (f : ℕ → EReal)

/-- The greatest of the 1000 scores. -/
def top : EReal := (Finset.range 1000).sup f
/-- The exponential of a score's difference to the greatest. -/
def expo (c : ℕ) : EReal := Ideal.exp (f c - top f)
/-- The sum of the exponentials. -/
def total : EReal := ∑ c ∈ Finset.range 1000, expo f c
/-- The sum of the squared exponentials. -/
def squares : EReal := ∑ c ∈ Finset.range 1000, expo f c * expo f c
/-- The exponential at a label, as the sum over the scores that picks it. -/
def picked (l : ℕ) : EReal := ∑ c ∈ Finset.range 1000, if c = l then expo f c else 0
/-- The probability of a class. -/
def prob (c : ℕ) : EReal := Ideal.div (expo f c) (total f)

/-- The smallness added before the logarithm. -/
def eps : EReal := Ideal.ofBits .f32 0x2B8CBCCC#32

/-- The entropy as the kernel computes it. -/
def kernelEntropy : EReal :=
  0 - Ideal.log (Ideal.div (squares f) (total f * total f) + eps) * (((Real.log 2)⁻¹ : ℝ) : EReal)
/-- The entropy as the reference computes it. -/
def hostEntropy : EReal :=
  -Ideal.div (Ideal.log ((∑ c ∈ Finset.range 1000, prob f c * prob f c) + eps)) (Ideal.log (Ideal.ofBits .f32 0x40000000#32))
/-- The error as the kernel computes it. -/
def kernelError (l : ℕ) : EReal := 1 - Ideal.div (picked f l) (total f)
/-- The error as the reference computes it. -/
def hostError (l : ℕ) : EReal := 1 - prob f l

/-- A sum of real numbers is the real number of the sum. -/
theorem coe_sum {ι : Type} (s : Finset ι) (r : ι → ℝ) : ((∑ i ∈ s, r i : ℝ) : EReal) = ∑ i ∈ s, (r i : EReal) := by
  classical
  induction s using Finset.induction_on with
  | empty => simp
  | insert a s ha ih => rw [Finset.sum_insert ha, Finset.sum_insert ha, EReal.coe_add, ih]

/-- The greatest score is one of the scores. -/
theorem exists_top : ∃ c ∈ Finset.range 1000, top f = f c :=
  Finset.exists_mem_eq_sup _ ⟨0, by simp⟩ f

/-- With a finite maximum the exponentials are nonnegative real numbers. -/
theorem exists_real (h₀ : top f ≠ ⊥) (h₁ : top f ≠ ⊤) (c : ℕ) (hc : c < 1000) : ∃ r : ℝ, expo f c = (r : EReal) ∧ 0 ≤ r := by
  have hle : f c ≤ top f := Finset.le_sup (f := f) (Finset.mem_range.2 hc)
  unfold expo
  obtain ⟨M, hM⟩ : ∃ M : ℝ, top f = (M : EReal) := ⟨(top f).toReal, (EReal.coe_toReal h₁ h₀).symm⟩
  rw [hM] at hle ⊢
  generalize f c = x at hle
  induction x using EReal.rec with
  | bot => exact ⟨0, by rw [EReal.bot_sub]; rfl, le_rfl⟩
  | coe r => exact ⟨Real.exp (r - M), by rw [← EReal.coe_sub]; rfl, (Real.exp_pos _).le⟩
  | top => exact absurd hle (by simp)

/-- The exponential of the greatest score is one. -/
theorem exists_one (h₀ : top f ≠ ⊥) (h₁ : top f ≠ ⊤) : ∃ c ∈ Finset.range 1000, expo f c = 1 := by
  obtain ⟨c, hc, e⟩ := exists_top f
  refine ⟨c, hc, ?_⟩
  unfold expo
  rw [← e, EReal.sub_self h₁ h₀]
  show ((Real.exp 0 : ℝ) : EReal) = 1
  rw [Real.exp_zero]; rfl

/-- With a finite maximum: real exponentials with a positive sum. -/
theorem reals (h₀ : top f ≠ ⊥) (h₁ : top f ≠ ⊤) : ∃ r : ℕ → ℝ, (∀ c ∈ Finset.range 1000, expo f c = (r c : EReal)) ∧
    0 < ∑ c ∈ Finset.range 1000, r c := by
  choose! r hr hr₀ using exists_real f h₀ h₁
  refine ⟨r, fun c hc => hr c (Finset.mem_range.1 hc), ?_⟩
  obtain ⟨c, hc, e⟩ := exists_one f h₀ h₁
  refine Finset.sum_pos' (fun i hi => hr₀ i (Finset.mem_range.1 hi)) ⟨c, hc, ?_⟩
  have := hr c (Finset.mem_range.1 hc)
  rw [e] at this
  have h1 : r c = 1 := by exact_mod_cast this.symm
  rw [h1]; exact one_pos

/-- The two spellings of the collision probability agree. -/
theorem collision_eq (h₀ : top f ≠ ⊥) (h₁ : top f ≠ ⊤) :
    ∑ c ∈ Finset.range 1000, prob f c * prob f c = Ideal.div (squares f) (total f * total f) := by
  obtain ⟨r, hr, hs⟩ := reals f h₀ h₁
  have ht : total f = ((∑ c ∈ Finset.range 1000, r c : ℝ) : EReal) := by
    rw [coe_sum]; exact Finset.sum_congr rfl hr
  have hq : squares f = ((∑ c ∈ Finset.range 1000, r c * r c : ℝ) : EReal) := by
    rw [coe_sum]
    exact Finset.sum_congr rfl fun c hc => by rw [hr c hc, EReal.coe_mul]
  generalize (∑ c ∈ Finset.range 1000, r c) = s at hs ht
  have hp : ∀ c ∈ Finset.range 1000, prob f c * prob f c = ((r c * r c * (1 / (s * s)) : ℝ) : EReal) := fun c hc => by
    unfold prob
    rw [hr c hc, ht, Ideal.div_coe hs.ne', ← EReal.coe_mul, ← EReal.coe_mul]
    refine congrArg _ ?_
    field_simp
  rw [Finset.sum_congr rfl hp, ← coe_sum, hq, ht, ← EReal.coe_mul, Ideal.div_coe (mul_pos hs hs).ne', ← EReal.coe_mul,
    Finset.sum_mul]

/-- The float32 word of two is two. -/
theorem ofBits_two : Ideal.ofBits .f32 0x40000000#32 = ((2 : ℝ) : EReal) := by
  simp [Ideal.ofBits, Ideal.ieee, -EReal.coe_mul]; norm_num

/-- The two entropies agree. -/
theorem entropy_eq (h₀ : top f ≠ ⊥) (h₁ : top f ≠ ⊤) : kernelEntropy f = hostEntropy f := by
  unfold kernelEntropy hostEntropy
  have hl : Ideal.log ((2 : ℝ) : EReal) = ((Real.log 2 : ℝ) : EReal) := by
    show (if (2 : ℝ) ≤ 0 then ⊥ else ((Real.log 2 : ℝ) : EReal)) = _
    rw [if_neg (by norm_num)]
  rw [collision_eq f h₀ h₁, ofBits_two, hl, Ideal.div_coe (Real.log_pos (by norm_num)).ne', sub_eq_add_neg, zero_add, one_div]

/-- The sum over the scores picks the label's. -/
theorem picked_eq (l : ℕ) (hl : l < 1000) : picked f l = expo f l := by
  unfold picked
  rw [Finset.sum_ite_eq' (Finset.range 1000) l, if_pos (Finset.mem_range.2 hl)]

/-- The two errors agree. -/
theorem error_eq (l : ℕ) (hl : l < 1000) : kernelError f l = hostError f l := by
  unfold kernelError hostError prob
  rw [picked_eq f l hl]

end Cert.Sample

end
-- ==== Proof.StageA.lean ====
module

public import proofs.«01_k».proof.Proof.Blocks
public import proofs.«01_k».proof.Proof.Sample
public import Idealize.ShloMosaic.Lib.Pipeline.Value
public import Idealize.ShloMosaic.Lib.Pointwise

@[expose] public section

set_option maxRecDepth 16384

/-!
Stage A at the ideal values: the entry that a block of logits stores for a sample is the entropy, or the error, of the
sample's scores.

The kernel takes the 1000 scores in 125 chunks of eight, keeping eight partial maxima and sums; folding those eight
gives the maximum and the sums over all scores.
-/

noncomputable section

namespace Cert.KernelIdeal.Hand

open Idealize.ShloMosaic
open Cert.KernelIdeal.Gen
open Cert.Sample

/-! ### Eight interleaved folds -/

/-- The maximum over all scores from the eight partial ones. -/
theorem sup_interleaved (f : ℕ → EReal) :
    (Finset.univ : Finset (Fin 8)).sup (fun k => (Finset.range 125).sup fun i => f (8 * i + k.val))
      = (Finset.range 1000).sup f := by
  apply le_antisymm
  · refine Finset.sup_le fun k _ => Finset.sup_le fun i hi => ?_
    have := Finset.mem_range.1 hi
    exact Finset.le_sup (f := f) (Finset.mem_range.2 (by omega))
  · refine Finset.sup_le fun c hc => ?_
    have := Finset.mem_range.1 hc
    refine le_trans ?_ (Finset.le_sup (Finset.mem_univ (⟨c % 8, by omega⟩ : Fin 8)))
    refine le_trans (le_of_eq ?_) (Finset.le_sup (Finset.mem_range.2 (by omega : c / 8 < 125)))
    exact congrArg f (by show c = 8 * (c / 8) + c % 8; omega)

/-- A sum over the first `8 n` numbers, eight at a time. -/
theorem sum_eights (g : ℕ → EReal) : ∀ n : ℕ,
    ∑ c ∈ Finset.range (8 * n), g c = ∑ i ∈ Finset.range n, ∑ k : Fin 8, g (8 * i + k.val)
  | 0 => by simp
  | n + 1 => by
    rw [show 8 * (n + 1) = 8 * n + 8 from rfl, Finset.sum_range_add, sum_eights g n,
      Finset.sum_range_succ (fun i => ∑ k : Fin 8, g (8 * i + k.val)) n,
      ← Fin.sum_univ_eq_sum_range (fun k => g (8 * n + k)) 8]

/-- The sum over all scores from the eight partial ones. -/
theorem sum_interleaved (g : ℕ → EReal) :
    ∑ k : Fin 8, ∑ i ∈ Finset.range 125, g (8 * i + k.val) = ∑ c ∈ Finset.range 1000, g c := by
  rw [Finset.sum_comm, ← sum_eights g 125]

/-! ### Indices -/

/-- The scores of column `q` of a block. -/
def scores (x : Vec Ideal S1000x2048 .f32) (q : Fin 2048) (c : ℕ) : EReal :=
  x fun a => match a with
    | 0 => ⟨c % 1000, Nat.mod_lt _ (by decide)⟩
    | 1 => q

/-- Column `q` of a row of 2048. -/
def inRow (q : Fin 2048) : S1x2048.Idx := fun a => match a with
  | 0 => ⟨0, by decide⟩
  | 1 => q

/-- Place `q` of a list of 2048. -/
def inList (q : Fin 2048) : S2048.Idx := fun a => match a with
  | 0 => q

/-- Row `k` and column `q` of a chunk. -/
def inChunk (k : Fin 8) (q : Fin 2048) : S8x2048.Idx := fun a => match a with
  | 0 => k
  | 1 => q

/-- Every place in a row of 2048 is a column. -/
theorem eq_inRow (j : S1x2048.Idx) : j = inRow (j 1) := by
  funext a
  match a with
  | 0 => exact Fin.ext (by have : (j 0).val < 1 := (j 0).isLt; show (j 0).val = 0; omega)
  | 1 => rfl

/-- Every place in a chunk is a row and a column. -/
theorem eq_inChunk (j : S8x2048.Idx) : j = inChunk (j 0) (j 1) := by
  funext a
  match a with
  | 0 => rfl
  | 1 => rfl

/-- A cast to the same shape changes nothing. -/
theorem shapeCast_same {s : Shape} {α : Type} (v : s.Idx → α) (h : s.ShapeCasts s) : shapeCast s v h = v :=
  funext fun j => shapeCast_apply v h j j rfl

/-- A row spread over the eight rows of a chunk. -/
theorem spread_row {α : Type} (v : S1x2048.Idx → α) (k : Fin 8) (q : Fin 2048) :
    broadcastTo S8x2048 v broadcasts_S1x2048_S8x2048 (inChunk k q) = v (inRow q) :=
  broadcastTo_apply _ _ _ _ fun a => by
    match a with
    | 0 => rfl
    | 1 => rfl

/-- A list of 2048 as a row. -/
theorem as_row {α : Type} (v : S2048.Idx → α) (q : Fin 2048) :
    shapeCast S1x2048 v shapeCasts_S2048_S1x2048 (inRow q) = v (inList q) :=
  shapeCast_apply _ _ _ _ (by
    rw [Shape.rowMajor_val_one, Shape.rowMajor_val_two]
    show q.val = 0 * 2048 + q.val
    omega)

/-- The place of a chunk that folding the rows visits. -/
theorem lift_chunk (q : Fin 2048) (k : Fin 8) : reduces_S8x2048_S2048.lift (inList q) k = inChunk k q := by
  funext a
  match a with
  | 0 => rfl
  | 1 => rfl

/-! ### The folds -/

variable (x : Vec Ideal S1000x2048 .f32)

/-- A chunk holds scores. -/
theorem chunkOf_scores (n : ℕ) (k : Fin 8) (q : Fin 2048) : chunkOf x n (inChunk k q) = scores x q (8 * n + k.val) := rfl

/-- The running maximum of one of the eight rows. -/
theorem maxUpTo_apply (k : Fin 8) (q : Fin 2048) : ∀ n : ℕ,
    maxUpTo (chunkOf x) n (inChunk k q) = (Finset.range (n + 1)).sup fun i => scores x q (8 * i + k.val)
  | 0 => by
    show shapeCast S8x2048 (chunkOf x 0) _ (inChunk k q) = _
    rw [shapeCast_same, chunkOf_scores]; simp
  | n + 1 => by
    show max (maxUpTo (chunkOf x) n (inChunk k q)) (shapeCast S8x2048 (chunkOf x (n + 1)) _ (inChunk k q)) = _
    rw [maxUpTo_apply k q n, shapeCast_same, chunkOf_scores, Finset.range_add_one (n := n + 1), Finset.sup_insert]
    exact max_comm _ _

/-- The word of minus infinity. -/
theorem ofBits_bot : Ideal.ofBits .f32 0xFF800000#32 = ⊥ := by simp [Ideal.ofBits, Ideal.ieee]

/-- The maximum of a column is the greatest of its scores. -/
theorem colMax_apply (q : Fin 2048) : colMax (chunkOf x) (inRow q) = top (scores x q) := by
  unfold colMax
  rw [as_row]
  refine (Ideal.multiReduction_maximumf_single _ _ _ _ _ _).trans ?_
  show (Finset.univ : Finset (Fin 8)).fold max (Ideal.ofBits .f32 0xFF800000#32) _ = _
  rw [ofBits_bot]
  unfold top
  rw [← sup_interleaved]
  show (Finset.univ : Finset (Fin 8)).sup _ = _
  refine Finset.sup_congr rfl fun k _ => ?_
  show maxUpTo (chunkOf x) 124 (reduces_S8x2048_S2048.lift (inList q) k) = _
  rw [lift_chunk, maxUpTo_apply]

/-- A chunk of exponentials. -/
theorem expChunk_apply (n : ℕ) (k : Fin 8) (q : Fin 2048) :
    expChunk (chunkOf x) (colMax (chunkOf x)) n (inChunk k q) = expo (scores x q) (8 * n + k.val) := by
  show Ideal.exp (shapeCast S8x2048 (chunkOf x n) _ (inChunk k q)
    - broadcastTo S8x2048 (colMax (chunkOf x)) broadcasts_S1x2048_S8x2048 (inChunk k q)) = _
  rw [shapeCast_same, chunkOf_scores, spread_row, colMax_apply]
  rfl

/-- The accumulators start at zero. -/
theorem zeroChunk_apply (j : S8x2048.Idx) : (zeroChunk (F := Ideal)) j = 0 := Ideal.ofBits_zero_f32

/-- The exponentials summed so far in one of the eight rows. -/
theorem accSum_apply (k : Fin 8) (q : Fin 2048) : ∀ n : ℕ,
    accSum (chunkOf x) (colMax (chunkOf x)) n (inChunk k q) = ∑ i ∈ Finset.range n, expo (scores x q) (8 * i + k.val)
  | 0 => zeroChunk_apply _
  | n + 1 => by
    show accSum (chunkOf x) (colMax (chunkOf x)) n (inChunk k q)
      + expChunk (chunkOf x) (colMax (chunkOf x)) n (inChunk k q) = _
    rw [accSum_apply k q n, expChunk_apply, Finset.sum_range_succ]

/-- The squared exponentials summed so far in one of the eight rows. -/
theorem accSq_apply (k : Fin 8) (q : Fin 2048) : ∀ n : ℕ,
    accSq (chunkOf x) (colMax (chunkOf x)) n (inChunk k q)
      = ∑ i ∈ Finset.range n, expo (scores x q) (8 * i + k.val) * expo (scores x q) (8 * i + k.val)
  | 0 => zeroChunk_apply _
  | n + 1 => by
    show accSq (chunkOf x) (colMax (chunkOf x)) n (inChunk k q)
      + expChunk (chunkOf x) (colMax (chunkOf x)) n (inChunk k q)
        * expChunk (chunkOf x) (colMax (chunkOf x)) n (inChunk k q) = _
    rw [accSq_apply k q n, expChunk_apply, Finset.sum_range_succ]

/-- The label's row is found by comparing words. -/
theorem word_row_eq (n k : ℕ) (hn : n < 125) (hk : k < 8) (l : BitVec 32) :
    IntOp.cmpi .eq (IntOp.addi (BitVec.ofNat 32 (8 * n)) (BitVec.ofNat 32 k)) l
      = BitVec.ofBool (decide (8 * n + k = l.toNat)) := by
  have : (BitVec.ofNat 32 (8 * n) + BitVec.ofNat 32 k == l) = decide (8 * n + k = l.toNat) := by
    rw [Bool.eq_iff_iff, beq_iff_eq, decide_eq_true_iff, ← BitVec.toNat_inj, BitVec.toNat_add, BitVec.toNat_ofNat,
      BitVec.toNat_ofNat, Nat.mod_eq_of_lt (by omega : 8 * n < 2 ^ 32), Nat.mod_eq_of_lt (by omega : k < 2 ^ 32),
      Nat.mod_eq_of_lt (by omega : 8 * n + k < 2 ^ 32)]
  exact congrArg BitVec.ofBool this

/-- The exponentials at the label summed so far in one of the eight rows. -/
theorem accLab_apply (lab : IVec S1x2048 32) (k : Fin 8) (q : Fin 2048) : ∀ n : ℕ, n ≤ 125 →
    accLab (chunkOf x) lab (colMax (chunkOf x)) n (inChunk k q)
      = ∑ i ∈ Finset.range n,
          if 8 * i + k.val = (lab (inRow q)).toNat then expo (scores x q) (8 * i + k.val) else 0
  | 0, _ => zeroChunk_apply _
  | n + 1, hn => by
    show accLab (chunkOf x) lab (colMax (chunkOf x)) n (inChunk k q)
      + Scalar.select (IntOp.cmpi .eq (IntOp.addi (BitVec.ofNat 32 (8 * n))
          (iota .tc S8x2048 32 [0] iota_S8x2048_d0_w32 (inChunk k q)))
          (broadcastTo S8x2048 (labRow lab) broadcasts_S1x2048_S8x2048 (inChunk k q)))
        (expChunk (chunkOf x) (colMax (chunkOf x)) n (inChunk k q)) (zeroChunk (inChunk k q)) = _
    rw [accLab_apply lab k q n (by omega), expChunk_apply, zeroChunk_apply, spread_row, iota_single_apply,
      Finset.sum_range_succ]
    have hl : labRow lab (inRow q) = lab (inRow q) := congrFun (shapeCast_same lab _) _
    rw [hl, show (inChunk k q 0).val = k.val from rfl, word_row_eq n k.val (by omega) k.isLt]
    by_cases h : 8 * n + k.val = (lab (inRow q)).toNat
    · rw [decide_eq_true h, if_pos h]; rfl
    · rw [decide_eq_false h, if_neg h]; rfl

/-- The eight rows of an accumulator, summed in a column. -/
theorem sumRows_apply (v : FVec Ideal S8x2048 .f32) (q : Fin 2048) : sumRows v (inRow q) = ∑ k : Fin 8, v (inChunk k q) := by
  unfold sumRows
  rw [as_row]
  refine (Ideal.multiReduction_add_single _ _ _ _ _ _).trans ?_
  exact Finset.sum_congr rfl fun k _ => congrArg v (lift_chunk q k)

/-- The block's sum of exponentials is the sample's total. -/
theorem expSum_apply (q : Fin 2048) : expSum (chunkOf x) (inRow q) = total (scores x q) := by
  unfold expSum total
  rw [sumRows_apply, ← sum_interleaved]
  exact Finset.sum_congr rfl fun k _ => accSum_apply x k q 125

/-- The block's sum of squares is the sample's. -/
theorem sqSum_apply (q : Fin 2048) :
    sumRows (accSq (chunkOf x) (colMax (chunkOf x)) 125) (inRow q) = squares (scores x q) := by
  unfold squares
  rw [sumRows_apply, ← sum_interleaved]
  exact Finset.sum_congr rfl fun k _ => accSq_apply x k q 125

/-- The block's masked sum is the exponential at the sample's label. -/
theorem labSum_apply (lab : IVec S1x2048 32) (q : Fin 2048) :
    sumRows (accLab (chunkOf x) lab (colMax (chunkOf x)) 125) (inRow q)
      = picked (scores x q) (lab (inRow q)).toNat := by
  unfold picked
  rw [sumRows_apply, ← sum_interleaved]
  exact Finset.sum_congr rfl fun k _ => accLab_apply x lab k q 125 le_rfl

/-! ### The blocks -/

/-- The column stored at a place of the 16 × 128 rows. -/
def columnOf (z : S16x128.Idx) : Fin 2048 :=
  ⟨(z 0).val * 128 + (z 1).val, by
    have h0 : (z 0).val < 16 := (z 0).isLt
    have h1 : (z 1).val < 128 := (z 1).isLt
    omega⟩

/-- A row of 2048 as 16 rows of 128. -/
theorem as_rows {α : Type} (v : S1x2048.Idx → α) (z : S16x128.Idx) :
    shapeCast S16x128 (shapeCast S16x128 v shapeCasts_S1x2048_S16x128) shapeCasts_S16x128_S16x128 z
      = v (inRow (columnOf z)) := by
  rw [shapeCast_same]
  refine shapeCast_apply _ _ _ _ ?_
  rw [Shape.rowMajor_val_two, Shape.rowMajor_val_two]
  show 0 * 2048 + ((z 0).val * 128 + (z 1).val) = (z 0).val * 128 + (z 1).val
  omega

/-- The named constant is `1 / log 2`. -/
theorem named_inv_ln2 : (Named.named κ "inv_ln2" 0x3FB8AA3B#32 : Ideal .f32) = (((Real.log 2)⁻¹ : ℝ) : EReal) := rfl

/-- What is stored as a sample's entropy. -/
theorem entropyBlock_apply (z : S16x128.Idx) :
    entropyBlock (chunkOf x) z = kernelEntropy (scores x (columnOf z)) := by
  unfold entropyBlock
  rw [as_rows]
  show Ideal.ofBits .f32 0x00000000#32
    - Ideal.log (Ideal.div (sumRows (accSq (chunkOf x) (colMax (chunkOf x)) 125) (inRow (columnOf z)))
        (expSum (chunkOf x) (inRow (columnOf z)) * expSum (chunkOf x) (inRow (columnOf z)))
        + Ideal.ofBits .f32 0x2B8CBCCC#32) * (Named.named κ "inv_ln2" 0x3FB8AA3B#32 : Ideal .f32) = _
  rw [sqSum_apply, expSum_apply, named_inv_ln2, Ideal.ofBits_zero_f32]
  rfl

/-- What is stored as a sample's error. -/
theorem errorBlock_apply (lab : IVec S1x2048 32) (z : S16x128.Idx) :
    errorBlock (chunkOf x) lab z = kernelError (scores x (columnOf z)) (lab (inRow (columnOf z))).toNat := by
  unfold errorBlock
  rw [as_rows]
  show Ideal.ofBits .f32 0x3F800000#32
    - Ideal.div (sumRows (accLab (chunkOf x) lab (colMax (chunkOf x)) 125) (inRow (columnOf z)))
        (expSum (chunkOf x) (inRow (columnOf z))) = _
  rw [labSum_apply, expSum_apply, Ideal.ofBits_one_f32]
  rfl

end Cert.KernelIdeal.Hand

end
-- ==== Proof.Sort.lean ====
module

public import proofs.«01_k».proof.Proof.Spec
public import Idealize.ShloMosaic.Lib.Pipeline.Value
public import Idealize.ShloMosaic.Lib.Pointwise
public import Idealize.ShloMosaic.Lib.SortFacts
public import Idealize.ShloMosaic.Lib.SortNet.Sorts
public import Idealize.ShloMosaic.Lib.SortNet.Printed
public import Idealize.ShloMosaic.PureOps.Ideal.Laws

@[expose] public section

set_option maxRecDepth 16384

/-!
The network of the kernel sorts.

Cell `(r, c)` of the tile is position `128 r + c`. In positions, the stage of merge `k` at bit `j` compares the
positions differing in bit `j`, ascending where bit `k` is clear: it is a stage of the bitonic network on `2 ^ 14`
positions, and the whole is that network, which sorts. A sorted arrangement of the same entries is unique, so the
kernel's sorted tile holds the reference's sorted list, row after row.
-/

noncomputable section

namespace Cert.KernelIdeal.Hand

open Idealize.ShloMosaic Idealize.ShloMosaic.SortNet
open Cert.KernelIdeal.Gen

/-- The cell of the tile at position `n`, row after row. -/
def cellOf (n : Fin 16384) : S128x128.Idx := fun a => match a with
  | 0 => ⟨n.val / 128, by have := n.isLt; show n.val / 128 < 128; omega⟩
  | 1 => ⟨n.val % 128, by show n.val % 128 < 128; omega⟩

/-- The row of the cell at a position. -/
theorem cellOf_zero (n : Fin 16384) : (cellOf n 0).val = n.val / 128 := rfl
/-- The column of the cell at a position. -/
theorem cellOf_one (n : Fin 16384) : (cellOf n 1).val = n.val % 128 := rfl

/-! ### Bits -/

/-- A power of two clears a number below 128 as it clears its word. -/
theorem word_bit_clear (x d : ℕ) (hx : x < 128) (hd : d ≤ 128) :
    IntOp.cmpi .eq (IntOp.andi (BitVec.ofNat 32 x) (BitVec.ofNat 32 d)) 0#32 = BitVec.ofBool (decide (x &&& d = 0)) := by
  have hlt : x &&& d < 2 ^ 32 := lt_of_le_of_lt Nat.and_le_left (by omega)
  have : (BitVec.ofNat 32 x &&& BitVec.ofNat 32 d == 0#32) = decide (x &&& d = 0) := by
    rw [Bool.eq_iff_iff, beq_iff_eq, decide_eq_true_iff, ← BitVec.toNat_inj, BitVec.toNat_and, BitVec.toNat_ofNat,
      BitVec.toNat_ofNat, BitVec.toNat_ofNat, Nat.mod_eq_of_lt (by omega : x < 2 ^ 32),
      Nat.mod_eq_of_lt (by omega : d < 2 ^ 32)]
  exact congrArg BitVec.ofBool this

/-- Where the column's bit is clear. -/
theorem bitClear_col (d : ℕ) (hd : d ≤ 128) (y : S128x128.Idx) :
    bitClear colIota d y = BitVec.ofBool (decide ((y 1).val &&& d = 0)) := by
  rw [← word_bit_clear (y 1).val d (y 1).isLt hd]
  show IntOp.cmpi .eq (IntOp.andi (colIota y) (BitVec.ofNat 32 d)) 0#32 = _
  rw [show colIota y = BitVec.ofNat 32 (y 1).val from iota_single_apply _ _ _ _ _ _]

/-- Where the row's bit is clear. -/
theorem bitClear_row (d : ℕ) (hd : d ≤ 128) (y : S128x128.Idx) :
    bitClear rowIota d y = BitVec.ofBool (decide ((y 0).val &&& d = 0)) := by
  rw [← word_bit_clear (y 0).val d (y 0).isLt hd]
  show IntOp.cmpi .eq (IntOp.andi (rowIota y) (BitVec.ofNat 32 d)) 0#32 = _
  rw [show rowIota y = BitVec.ofNat 32 (y 0).val from iota_single_apply _ _ _ _ _ _]

/-- The low seven bits of a position are its column's. -/
theorem low_bit (n s : ℕ) (hs : s < 7) : (n % 128 &&& 2 ^ s = 0) ↔ (n &&& 2 ^ s = 0) := by
  rw [and_two_pow_eq_zero_iff_testBit, and_two_pow_eq_zero_iff_testBit, show 128 = 2 ^ 7 from rfl,
    Nat.testBit_mod_two_pow]
  simp [hs]

/-- The high seven bits of a position are its row's. -/
theorem high_bit (n s : ℕ) : (n / 128 &&& 2 ^ s = 0) ↔ (n &&& 2 ^ (s + 7) = 0) := by
  rw [and_two_pow_eq_zero_iff_testBit, and_two_pow_eq_zero_iff_testBit, show 128 = 2 ^ 7 from rfl,
    Nat.testBit_div_two_pow]

/-- Adding a clear bit stays inside the width. -/
theorem add_bit_lt (x s : ℕ) (hx : x < 128) (hs : s < 7) (h : x &&& 2 ^ s = 0) : x + 2 ^ s < 128 := by
  have e := partner_val_of_clear (p := 7) hs ⟨x, hx⟩ h
  have := (partner 7 s ⟨x, hx⟩).isLt
  rw [e] at this
  exact this

/-- A set bit can be taken away. -/
theorem set_bit_le (x s : ℕ) (hx : x < 128) (hs : s < 7) (h : ¬ x &&& 2 ^ s = 0) : 2 ^ s ≤ x :=
  (partner_val_of_set (p := 7) hs ⟨x, hx⟩ h).1

/-- Moving inside a row. -/
theorem row_step (n d : ℕ) : (n % 128 + d < 128 → (n + d) / 128 = 0 + n / 128 ∧ (n + d) % 128 = d + n % 128)
    ∧ (d ≤ n % 128 → (n - d) / 128 = 0 + n / 128 ∧ (n - d) % 128 = 0 + (n % 128 - d)) := by
  constructor <;> intro h <;> constructor <;> omega

/-- Moving by whole rows. -/
theorem column_step (n d : ℕ) : ((n + 128 * d) / 128 = d + n / 128 ∧ (n + 128 * d) % 128 = 0 + n % 128)
    ∧ (d ≤ n / 128 → (n - 128 * d) / 128 = 0 + (n / 128 - d) ∧ (n - 128 * d) % 128 = 0 + n % 128) := by
  refine ⟨⟨?_, ?_⟩, fun h => ⟨?_, ?_⟩⟩ <;> omega

/-! ### Partners -/

variable (v : FVec Ideal S128x128 .f32)

/-- The column partner of the cell at `n` is the cell of the partner of `n`. -/
theorem colPartner_cellOf (s : ℕ) (hs : s < 7) (hd : 2 ^ s ≤ 128) (n : Fin 16384) :
    colPartner (2 ^ s) hd v (cellOf n) = v (cellOf (partner 14 s n)) := by
  have hn := n.isLt
  show Scalar.select (bitClear colIota (2 ^ s) (cellOf n)) _ _ = _
  rw [bitClear_col _ hd, cellOf_one]
  by_cases hb : n.val % 128 &&& 2 ^ s = 0
  · have hlt := add_bit_lt _ s (Nat.mod_lt _ (by decide)) hs hb
    have hp := partner_val_of_clear (p := 14) (by omega) n ((low_bit _ s hs).1 hb)
    rw [decide_eq_true hb]
    refine (concatenate_pair_apply _ _ _ (concatenates_col hd) _).trans ?_
    refine (dif_pos (show n.val % 128 < 128 - 2 ^ s by omega)).trans ?_
    refine extractStridedSlice_apply _ _ _ _ _ fun a => ?_
    fin_cases a
    · show (partner 14 s n).val / 128 = 0 + n.val / 128
      rw [hp]; exact ((row_step _ _).1 hlt).1
    · show (partner 14 s n).val % 128 = 2 ^ s + n.val % 128
      rw [hp]; exact ((row_step _ _).1 hlt).2
  · have hle := set_bit_le _ s (Nat.mod_lt _ (by decide)) hs hb
    have hp := (partner_val_of_set (p := 14) (by omega) n (fun h => hb ((low_bit _ s hs).2 h))).2
    rw [decide_eq_false hb]
    refine (concatenate_pair_apply _ _ _ (concatenates_col' hd) _).trans ?_
    refine (dif_neg (show ¬ n.val % 128 < 2 ^ s by omega)).trans ?_
    refine extractStridedSlice_apply _ _ _ _ _ fun a => ?_
    fin_cases a
    · show (partner 14 s n).val / 128 = 0 + n.val / 128
      rw [hp]; exact ((row_step _ _).2 hle).1
    · show (partner 14 s n).val % 128 = 0 + (n.val % 128 - 2 ^ s)
      rw [hp]; exact ((row_step _ _).2 hle).2

/-- The row partner of the cell at `n` is the cell of the partner of `n`. -/
theorem rowPartner_cellOf (s : ℕ) (hs : s < 7) (hd : 2 ^ s ≤ 128) (n : Fin 16384) :
    rowPartner (2 ^ s) hd v (cellOf n) = v (cellOf (partner 14 (s + 7) n)) := by
  have hn := n.isLt
  have hpow : 2 ^ (s + 7) = 128 * 2 ^ s := by rw [Nat.pow_add, Nat.mul_comm]
  show Scalar.select (bitClear rowIota (2 ^ s) (cellOf n)) _ _ = _
  rw [bitClear_row _ hd, cellOf_zero]
  by_cases hb : n.val / 128 &&& 2 ^ s = 0
  · have hlt := add_bit_lt _ s (by omega) hs hb
    have hp := partner_val_of_clear (p := 14) (by omega) n ((high_bit _ s).1 hb)
    rw [hpow] at hp
    rw [decide_eq_true hb]
    refine (concatenate_pair_apply _ _ _ (concatenates_row hd) _).trans ?_
    refine (dif_pos (show n.val / 128 < 128 - 2 ^ s by omega)).trans ?_
    refine extractStridedSlice_apply _ _ _ _ _ fun a => ?_
    fin_cases a
    · show (partner 14 (s + 7) n).val / 128 = 2 ^ s + n.val / 128
      rw [hp]; exact (column_step _ _).1.1
    · show (partner 14 (s + 7) n).val % 128 = 0 + n.val % 128
      rw [hp]; exact (column_step _ _).1.2
  · have hle := set_bit_le _ s (by omega) hs hb
    have hp := (partner_val_of_set (p := 14) (by omega) n (fun h => hb ((high_bit _ s).2 h))).2
    rw [hpow] at hp
    rw [decide_eq_false hb]
    refine (concatenate_pair_apply _ _ _ (concatenates_row' hd) _).trans ?_
    refine (dif_neg (show ¬ n.val / 128 < 2 ^ s by omega)).trans ?_
    refine extractStridedSlice_apply _ _ _ _ _ fun a => ?_
    fin_cases a
    · show (partner 14 (s + 7) n).val / 128 = 0 + (n.val / 128 - 2 ^ s)
      rw [hp]; exact ((column_step _ _).2 hle).1
    · show (partner 14 (s + 7) n).val % 128 = 0 + n.val % 128
      rw [hp]; exact ((column_step _ _).2 hle).2

/-! ### Stages -/

/-- Two bits agree where they are equal. -/
theorem agree_ofBool (a b : IVec S128x128 1) (y : S128x128.Idx) (p q : Bool) (ha : a y = BitVec.ofBool p)
    (hb : b y = BitVec.ofBool q) : agree a b y = BitVec.ofBool (p == q) := by
  show (a y ^^^ b y) ^^^ 1#1 = _
  rw [ha, hb]
  cases p <;> cases q <;> rfl

/-- Merge `k` takes the smaller where the end of the pair and bit `k` of the position agree. -/
theorem takeMin_cellOf (k : ℕ) (hk : k ≤ 14) (low : IVec S128x128 1) (n : Fin 16384) (b : Bool)
    (hl : low (cellOf n) = BitVec.ofBool b) :
    takeMin k low (cellOf n) = BitVec.ofBool (b == decide (n.val &&& 2 ^ k = 0)) := by
  have hn := n.isLt
  unfold takeMin
  split
  · rename_i h7
    refine agree_ofBool _ _ _ _ _ hl ?_
    rw [bitClear_col _ (Nat.pow_le_pow_right (by decide) (Nat.le_of_lt h7) : 2 ^ k ≤ 2 ^ 7), cellOf_one]
    exact congrArg _ (decide_eq_decide.2 (low_bit _ k h7))
  · rename_i h7
    split
    · refine agree_ofBool _ _ _ _ _ hl ?_
      rw [bitClear_row _ (Nat.pow_le_pow_right (by decide) (by omega) : 2 ^ (k - 7) ≤ 2 ^ 7), cellOf_zero]
      refine congrArg _ (decide_eq_decide.2 ?_)
      have := high_bit n.val (k - 7)
      rwa [Nat.sub_add_cancel (by omega)] at this
    · obtain rfl : k = 14 := by omega
      have h0 : n.val &&& 2 ^ 14 = 0 := by
        rw [and_two_pow_eq_zero_iff_testBit]
        exact Nat.testBit_lt_two_pow hn
      rw [hl, decide_eq_true h0]
      cases b <;> rfl

/-- What one stage of the bitonic network leaves at any position. -/
theorem apply_stage_at (k j : ℕ) (hj : j < 14) (hjk : j < k) (w : Fin (2 ^ 14) → EReal) (n : Fin (2 ^ 14)) :
    Network.apply (stage 14 j fun i => (decide (i.val &&& 2 ^ k = 0)) == false) w n
      = if decide (n.val &&& 2 ^ j = 0) == decide (n.val &&& 2 ^ k = 0)
        then min (w n) (w (partner 14 j n)) else max (w n) (w (partner 14 j n)) := by
  by_cases hb : n.val &&& 2 ^ j = 0
  · rw [(apply_stage hj _ w n hb).1, decide_eq_true hb]
    cases decide (n.val &&& 2 ^ k = 0) <;> rfl
  · have hq := partner_and_of_set hj n hb
    have e := (apply_stage hj (fun i => (decide (i.val &&& 2 ^ k = 0)) == false) w _ hq).2
    have hs := sizeClear_partner (p := 14) (s' := j) (l := k - 1) hj (by omega) false n
    rw [Nat.sub_add_cancel (by omega)] at hs
    rw [partner_partner hj] at e
    rw [e, decide_eq_false hb, min_comm, max_comm, hs]
    cases decide (n.val &&& 2 ^ k = 0) <;> rfl

/-- The stage of merge `k` at bit `j`, read at positions, is that stage of the bitonic network. -/
theorem stageAt_cellOf (k j : ℕ) (hj : j < 14) (hjk : j < k) (hk : k ≤ 14) (n : Fin 16384) :
    stageAt k j v (cellOf n)
      = Network.apply (stage 14 j fun i => (decide (i.val &&& 2 ^ k = 0)) == false) (fun i => v (cellOf i)) n := by
  have hn := n.isLt
  rw [apply_stage_at k j hj hjk]
  unfold stageAt
  have fin : ∀ (low : IVec S128x128 1) (p : FVec Ideal S128x128 .f32),
      low (cellOf n) = BitVec.ofBool (decide (n.val &&& 2 ^ j = 0)) → p (cellOf n) = v (cellOf (partner 14 j n)) →
      exchange (takeMin k low) v p (cellOf n) = if decide (n.val &&& 2 ^ j = 0) == decide (n.val &&& 2 ^ k = 0)
        then min (v (cellOf n)) (v (cellOf (partner 14 j n))) else max (v (cellOf n)) (v (cellOf (partner 14 j n))) := by
    intro low p hl hp
    show Scalar.select (takeMin k low (cellOf n)) (min (v (cellOf n)) (p (cellOf n))) (max (v (cellOf n)) (p (cellOf n))) = _
    rw [takeMin_cellOf k hk low n _ hl, hp]
    cases (decide (n.val &&& 2 ^ j = 0) == decide (n.val &&& 2 ^ k = 0)) <;> rfl
  split
  · rename_i h7
    have hm : j % 7 = j := Nat.mod_eq_of_lt h7
    have hd := dist_le j
    refine fin _ _ ?_ ?_
    · rw [bitClear_col _ hd, cellOf_one, hm]
      exact congrArg _ (decide_eq_decide.2 (low_bit _ j h7))
    · rw [colPartner_cellOf v (j % 7) (Nat.mod_lt _ (by decide)), hm]
  · have hm : j % 7 + 7 = j := by omega
    have hd := dist_le j
    refine fin _ _ ?_ ?_
    · rw [bitClear_row _ hd, cellOf_zero]
      refine congrArg _ (decide_eq_decide.2 ?_)
      rw [high_bit, hm]
    · rw [rowPartner_cellOf v (j % 7) (Nat.mod_lt _ (by decide)), hm]

/-! ### The network -/

/-- The stages of merge `k` at the bits below `j`, as a network. -/
def mergeNet (k : ℕ) (j : ℕ) : Network (2 ^ 14) :=
  (List.range j).reverse.flatMap fun s => stage 14 s fun i => (decide (i.val &&& 2 ^ k = 0)) == false

/-- A merge, read at positions, is its network. -/
theorem mergeFrom_cellOf (k : ℕ) (hk : k ≤ 14) : ∀ (j : ℕ), j ≤ k → ∀ (v : FVec Ideal S128x128 .f32) (n : Fin 16384),
    mergeFrom k j v (cellOf n) = Network.apply (mergeNet k j) (fun i => v (cellOf i)) n
  | 0, _, _, _ => rfl
  | j + 1, hj, v, n => by
    have hnet : mergeNet k (j + 1) = (stage 14 j fun i => (decide (i.val &&& 2 ^ k = 0)) == false) ++ mergeNet k j := by
      unfold mergeNet
      rw [List.range_succ, List.reverse_append, List.reverse_singleton, List.singleton_append, List.flatMap_cons]
    rw [hnet, Network.apply_append]
    show mergeFrom k j (stageAt k j v) (cellOf n) = _
    rw [mergeFrom_cellOf k hk j (by omega)]
    refine congrArg (fun w => Network.apply (mergeNet k j) w n) (funext fun i => ?_)
    exact stageAt_cellOf v k j (by omega) (by omega) hk i

/-- The first merges, read at positions, are the first levels of the bitonic sort. -/
theorem sortUpTo_levels : ∀ (k : ℕ), k ≤ 14 → ∀ n : Fin 16384,
    sortUpTo k v (cellOf n)
      = Network.apply ((List.range k).flatMap fun l => mergeNet (l + 1) (l + 1)) (fun i => v (cellOf i)) n
  | 0, _, _ => rfl
  | k + 1, hk, n => by
    rw [List.range_succ, List.flatMap_append, Network.apply_append, List.flatMap_singleton]
    show mergeFrom (k + 1) (k + 1) (sortUpTo k v) (cellOf n) = _
    rw [mergeFrom_cellOf (k + 1) hk (k + 1) le_rfl]
    refine congrArg (fun w => Network.apply (mergeNet (k + 1) (k + 1)) w n) (funext fun i => ?_)
    exact sortUpTo_levels k (by omega) i

/-- The whole, read at positions, is the bitonic sort. -/
theorem sortUpTo_cellOf (n : Fin 16384) :
    sortUpTo 14 v (cellOf n) = Network.apply (sortNet 14 false) (fun i => v (cellOf i)) n :=
  sortUpTo_levels v 14 le_rfl n

/-! ### Against the reference's sort -/

/-- Two ascending arrangements of the same entries are equal. -/
theorem sorted_unique {n : ℕ} (w f g : Fin n → EReal) (hf : Monotone f) (hg : Monotone g)
    (σ τ : Equiv.Perm (Fin n)) (ef : f = w ∘ σ) (eg : g = w ∘ τ) : f = g := by
  have h1 : (List.ofFn f).Perm (List.ofFn w) := by rw [ef]; exact Equiv.Perm.ofFn_comp_perm σ w
  have h2 : (List.ofFn g).Perm (List.ofFn w) := by rw [eg]; exact Equiv.Perm.ofFn_comp_perm τ w
  have sf : (List.ofFn f).Pairwise (· ≤ ·) := List.pairwise_ofFn.2 fun i j hij => hf (le_of_lt hij)
  have sg : (List.ofFn g).Pairwise (· ≤ ·) := List.pairwise_ofFn.2 fun i j hij => hg (le_of_lt hij)
  have e := List.Perm.eq_of_pairwise (le := fun a b : EReal => a ≤ b) (fun a b _ _ q1 q2 => le_antisymm q1 q2) sf sg
    (h1.trans h2.symm)
  exact List.ofFn_injective e

/-- The stable sort by "less than" is ascending. -/
theorem sortedFrom_monotone {n : ℕ} (w : Fin n → EReal) (R : Fin n → Fin n → Bool) (hR : ∀ a b, R a b = decide (w a < w b)) :
    Monotone fun i => w (sortedFrom R i) := by
  intro i j hij
  rcases eq_or_lt_of_le hij with rfl | hlt
  · exact le_rfl
  · have h := sortedFrom_noInversion R R (fun a b h => by
        rw [hR] at h ⊢; exact decide_eq_false (not_lt_of_gt (of_decide_eq_true h))) (fun a b h => h)
      (fun a b c h1 h2 => by
        rw [hR] at h1 h2 ⊢
        exact decide_eq_false (not_lt_of_ge (le_trans (not_lt.1 (of_decide_eq_false h2)) (not_lt.1 (of_decide_eq_false h1)))))
      i j hlt
    rw [hR] at h
    exact not_lt.1 (of_decide_eq_false h)

/-- The bitonic sort leaves what the stable sort by "less than" leaves. -/
theorem apply_sortNet_eq (p : ℕ) (w : Fin (2 ^ p) → EReal) (R : Fin (2 ^ p) → Fin (2 ^ p) → Bool)
    (hR : ∀ a b, R a b = decide (w a < w b)) (i : Fin (2 ^ p)) :
    Network.apply (sortNet p false) w i = w (sortedFrom R i) := by
  obtain ⟨σ, hσ⟩ := Network.exists_perm (sortNet p false) w
  exact congrFun (sorted_unique w _ (fun i => w (sortedFrom R i)) (sortNet_apply_monotone p w) (sortedFrom_monotone w R hR) σ
    (Equiv.ofBijective (sortedFrom R) ⟨sortedFrom_injective R, sortedFrom_surjective R⟩) hσ rfl) i

/-- The host's sort by "less than", as the bitonic sort. -/
theorem host_sort_eq (p N : ℕ) (hN : 2 ^ p = N) (cmp : EReal → EReal → BitVec 1)
    (hcmp : ∀ a b, cmp a b = BitVec.ofBool (decide (a < b))) (x : (⟨1, ![N]⟩ : Shape).Idx → EReal) (i : Fin (2 ^ p)) :
    Host.sort ⟨1, ![N]⟩ 0 cmp x (Shape.Idx.ofFin (i.cast hN))
      = Network.apply (sortNet p false) (fun k => x (Shape.Idx.ofFin (k.cast hN))) i := by
  subst hN
  rw [Host.sort_rank1, apply_sortNet_eq p _ (fun k k' => cmp (x (Shape.Idx.ofFin k)) (x (Shape.Idx.ofFin k')) == 1#1)]
  · rfl
  · intro a b
    show (cmp (x (Shape.Idx.ofFin a)) (x (Shape.Idx.ofFin b)) == 1#1) = decide (x (Shape.Idx.ofFin a) < x (Shape.Idx.ofFin b))
    rw [hcmp]
    cases decide (x (Shape.Idx.ofFin a) < x (Shape.Idx.ofFin b)) <;> rfl

/-- The sorted tile holds the sorted list, row after row: `cmp` is "less than". -/
theorem sortUpTo_eq_sort (cmp : EReal → EReal → BitVec 1) (hcmp : ∀ a b, cmp a b = BitVec.ofBool (decide (a < b)))
    (x : (⟨1, ![16384]⟩ : Shape).Idx → EReal) (hx : ∀ n : Fin 16384, v (cellOf n) = x (Shape.Idx.ofFin n))
    (n : Fin 16384) :
    sortUpTo 14 v (cellOf n) = Host.sort ⟨1, ![16384]⟩ 0 cmp x (Shape.Idx.ofFin n) := by
  have hN : 2 ^ 14 = 16384 := rfl
  refine (sortUpTo_cellOf v n).trans ?_
  refine Eq.trans ?_ (host_sort_eq 14 16384 hN cmp hcmp x n).symm
  exact congrArg (fun w => Network.apply (sortNet 14 false) w n) (funext hx)

end Cert.KernelIdeal.Hand

end
-- ==== Proof.Tiles.lean ====
module

public import proofs.«01_k».proof.Proof.Run
public import proofs.«01_k».proof.Proof.StageA
public import proofs.«01_k».proof.Proof.Sort

@[expose] public section

set_option maxRecDepth 16384

/-!
The two tiles in terms of the arguments: the cell at position `n` holds the entropy, or the error, of sample `n`.
-/

noncomputable section

namespace Cert.KernelIdeal.Hand

open Idealize.ShloMosaic Idealize.ShloMosaic.TcCoe
open Cert.KernelIdeal.Gen
open Cert.Sample

variable (m : (ℓ : Loc nD τ sig) → Buf (Elt Ideal) ℓ)

/-- The scores of sample `n`. -/
def sampleScores (L : Vec Ideal S16384x1000 .f32) (n : Fin 16384) (k : ℕ) : EReal :=
  L fun a => match a with
    | 0 => n
    | 1 => ⟨k % 1000, Nat.mod_lt _ (by decide)⟩

/-- The kernel reads the logits transposed. -/
theorem V_logits (c : Dev nD) : V m c main_v0
    = transpose S1000x16384 [1, 0] (m ((c : Thread nD τ).loc main_arg0)) transposes_S16384x1000_S1000x16384_1_0 := by
  entry_read
  rfl

/-- The kernel reads the labels as one row. -/
theorem V_labels (c : Dev nD) : V m c main_v1
    = shapeCast S1x16384 (m ((c : Thread nD τ).loc main_arg1)) shapeCasts_S16384_S1x16384 := by
  entry_read
  rfl

/-- The blocks follow the grid. -/
theorem index_logits : ∀ t : Fin cfg0.N, win0_0.index t = ![0, t.val] := by decide +kernel
/-- Grid point `t` reads block `t` of the labels. -/
theorem index_labels : ∀ t : Fin cfg0.N, win0_1.index t = ![0, t.val] := by decide +kernel

/-- The sample in column `q` of grid point `t`. -/
def sampleAt (t : Fin cfg0.N) (q : Fin 2048) : Fin 16384 :=
  ⟨t.val * 2048 + q.val, by have := t.isLt; have h : cfg0.N = 8 := N_0; omega⟩

/-- A block's scores are those of the sample it stands for. -/
theorem scores_logitsAt (c : Dev nD) (t : Fin cfg0.N) (q : Fin 2048) :
    scores (logitsAt m c t) q = sampleScores (m ((c : Thread nD τ).loc main_arg0)) (sampleAt t q) := by
  funext k
  unfold scores logitsAt sampleScores
  blk_simp [iblk]
  rw [V_logits]
  refine transpose_apply _ _ _ _ _ fun b => ?_
  match b with
  | 0 =>
    blk_simp [index_logits]
    rfl
  | 1 =>
    blk_simp [index_logits]
    show t.val * 2048 + q.val = t.val * 2048 + q.val
    rfl

/-- A block's label is that of the sample it stands for. -/
theorem label_labelsAt (c : Dev nD) (t : Fin cfg0.N) (q : Fin 2048) :
    labelsAt m c t (inRow q) = m ((c : Thread nD τ).loc main_arg1) (Shape.Idx.ofFin (sampleAt t q)) := by
  unfold labelsAt
  blk_simp [iblk]
  rw [V_labels]
  refine shapeCast_apply _ _ _ _ ?_
  refine (Shape.rowMajor_val_one (d := ![16384]) _).trans (Eq.trans ?_ (Shape.rowMajor_val_two (d := ![1, 16384]) _).symm)
  blk_simp [index_labels]
  rw [Shape.Idx.ofFin_zero]
  rfl

/-- The grid point, the column and so the sample of the cell at position `n`. -/
theorem sampleAt_cellOf (n : Fin 16384) : sampleAt (pointOf (cellOf n 0)) (columnOf (within (cellOf n))) = n := by
  apply Fin.ext
  show n.val / 128 / 16 * 2048 + (n.val / 128 % 16 * 128 + n.val % 128) = n.val
  omega

/-- The cell at position `n` of the tile of entropies. -/
theorem entropies_cellOf (c : Dev nD) (n : Fin 16384) :
    entropies m c (cellOf n) = kernelEntropy (sampleScores (m ((c : Thread nD τ).loc main_arg0)) n) := by
  unfold entropies
  rw [entropyBlock_apply, scores_logitsAt, sampleAt_cellOf]

/-- The cell at position `n` of the tile of errors. -/
theorem errors_cellOf (c : Dev nD) (n : Fin 16384) :
    errors m c (cellOf n) = kernelError (sampleScores (m ((c : Thread nD τ).loc main_arg0)) n)
      (BitVec.toNat (m ((c : Thread nD τ).loc main_arg1) (Shape.Idx.ofFin n) : BitVec 32)) := by
  unfold errors
  rw [errorBlock_apply, scores_logitsAt, label_labelsAt, sampleAt_cellOf]

end Cert.KernelIdeal.Hand

end
-- ==== Proof.Rows.lean ====
module

public import Idealize.ShloMosaic.PureOps.Ideal.Laws
public import Idealize.ShloMosaic.Lib.IdealHost
public import Idealize.ShloMosaic.Lib.KernelVsHost
public import Idealize.ShloMosaic.Lib.Pointwise.SelectCore
public import Idealize.ShloMosaic.Lib.StableHlo.Predicate
public import Idealize.ShloMosaic.Lib.ValueIdxCore

@[expose] public section

/-!
Arrays of `N` rows of `C` entries, read at an entry: a row's maximum and sum, a list spread over the rows, the pick of
one entry per row.
-/

noncomputable section

namespace Cert.Rows

open Idealize.ShloMosaic

variable {N C : ℕ}

/-- The place of entry `n` in a list. -/
abbrev at1 (n : Fin N) : (⟨1, ![N]⟩ : Shape).Idx := Shape.Idx.ofFin n
/-- The place of entry `k` of row `n`. -/
abbrev at2 (n : Fin N) (k : Fin C) : (⟨2, ![N, C]⟩ : Shape).Idx := ValueIdx.ix2 n k

/-- The place of a row that folding its entries visits. -/
theorem lift_row (h : (⟨2, ![N, C]⟩ : Shape).Reduces [1] ⟨1, ![N]⟩) (n : Fin N) (k : Fin C) :
    h.lift (at1 n) k = at2 n k := by
  funext a
  match a with
  | 0 => rfl
  | 1 => rfl

/-- A list kept as a column. -/
theorem column_apply {α : Type} (h : (⟨1, ![N]⟩ : Shape).BroadcastsInDim ⟨2, ![N, 1]⟩ (![0] : Fin 1 → Fin 2))
    (x : (⟨1, ![N]⟩ : Shape).Idx → α) (n : Fin N) (z : Fin 1) :
    broadcastInDim ⟨2, ![N, 1]⟩ (![0] : Fin 1 → Fin 2) h x (at2 n z) = x (at1 n) := by
  refine broadcastInDim_apply _ h x _ _ fun e => ?_
  match e with
  | ⟨0, _⟩ =>
    show n.val = if N = 1 then 0 else n.val
    have := n.isLt
    split <;> omega

/-- A list spread over the entries of the rows. -/
theorem spread_apply {α : Type} (h : (⟨1, ![N]⟩ : Shape).BroadcastsInDim ⟨2, ![N, 1]⟩ (![0] : Fin 1 → Fin 2))
    (h' : (⟨2, ![N, 1]⟩ : Shape).BroadcastsInDim ⟨2, ![N, C]⟩ (![0, 1] : Fin 2 → Fin 2))
    (x : (⟨1, ![N]⟩ : Shape).Idx → α) (n : Fin N) (k : Fin C) :
    broadcastInDim ⟨2, ![N, C]⟩ (![0, 1] : Fin 2 → Fin 2) h' (broadcastInDim ⟨2, ![N, 1]⟩ (![0] : Fin 1 → Fin 2) h x) (at2 n k)
      = x (at1 n) := by
  refine (broadcastInDim_apply _ h' _ _ (at2 n (0 : Fin 1)) fun e => ?_).trans (column_apply h x n 0)
  match e with
  | ⟨0, _⟩ =>
    show n.val = if N = 1 then 0 else n.val
    have := n.isLt
    split <;> omega
  | ⟨1, _⟩ =>
    show (0 : ℕ) = if (1 : ℕ) = 1 then 0 else k.val
    rfl

/-- The word of minus infinity. -/
theorem ofBits_bot : Ideal.ofBits .f32 0xFF800000#32 = ⊥ := by simp [Ideal.ofBits, Ideal.ieee]

/-- The maximum with minus infinity everywhere changes nothing. -/
theorem max_bot_apply {s t : Shape} (dims : Fin s.rank → Fin t.rank) (h : s.BroadcastsInDim t dims) (x : FVec Ideal t .f32)
    (j : t.Idx) : maximumf (broadcastInDim t dims h (constant s .f32 0xFF800000#32)) x j = x j := by
  show max (Ideal.ofBits .f32 0xFF800000#32) (x j) = x j
  rw [ofBits_bot]
  exact bot_sup_eq _

/-- The negative of a quotient of logarithms, at an entry. -/
theorem negLog_apply {s t : Shape} (dims : Fin s.rank → Fin t.rank) (h : s.BroadcastsInDim t dims) (x : FVec Ideal t .f32)
    (a b : BitVec 32) (j : t.Idx) :
    Host.negf (Host.divf (Host.log (addf x (broadcastInDim t dims h (constant s .f32 a))))
      (broadcastInDim t dims h (id (Host.log (constant s .f32 b))))) j
      = -Ideal.div (Ideal.log (x j + Ideal.ofBits .f32 a)) (Ideal.log (Ideal.ofBits .f32 b)) := rfl

/-- A constant minus an array, at an entry. -/
theorem constSub_apply {s t : Shape} (dims : Fin s.rank → Fin t.rank) (h : s.BroadcastsInDim t dims) (x : FVec Ideal t .f32)
    (a : BitVec 32) (j : t.Idx) :
    subf (broadcastInDim t dims h (constant s .f32 a)) x j = Ideal.ofBits .f32 a - x j := rfl

/-- A row's maximum. -/
theorem rowMax_apply {u : Shape} (hu : 0 < u.numel) (h : (⟨2, ![N, C]⟩ : Shape).ReducesTo [1] ⟨1, ![N]⟩)
    (h' : (⟨2, ![N, C]⟩ : Shape).Reduces [1] ⟨1, ![N]⟩)
    (x : FVec Ideal ⟨2, ![N, C]⟩ .f32) (f : ℕ → EReal) (n : Fin N) (hf : ∀ k : Fin C, x (at2 n k) = f k.val) :
    Host.reduce FloatOps.maximumf x (constant u .f32 0xFF800000#32) h hu (at1 n) = (Finset.range C).sup f := by
  refine (congrFun (hostReduce_maximumf_eq_multiReduction x _ h hu h' (Or.inl rfl) rfl) (at1 n)).trans ?_
  refine (Ideal.multiReduction_maximumf_single _ _ _ _ _ _).trans ?_
  show (Finset.univ : Finset (Fin C)).fold max (Ideal.ofBits .f32 0xFF800000#32) _ = _
  rw [ofBits_bot]
  show (Finset.univ : Finset (Fin C)).sup _ = _
  have e : (Finset.univ : Finset (Fin C)).sup (x ∘ h'.lift (at1 n)) = (Finset.univ : Finset (Fin C)).sup (fun k => f k.val) :=
    Finset.sup_congr rfl fun k _ => (congrArg x (lift_row h' n k)).trans (hf k)
  refine e.trans (le_antisymm ?_ ?_)
  · exact Finset.sup_le fun k _ => Finset.le_sup (f := f) (Finset.mem_range.2 k.isLt)
  · exact Finset.sup_le fun k hk => Finset.le_sup (f := fun k : Fin C => f k.val)
      (Finset.mem_univ (⟨k, Finset.mem_range.1 hk⟩ : Fin C))

/-- A row's sum. -/
theorem rowSum_apply {u : Shape} (hu : 0 < u.numel) (h : (⟨2, ![N, C]⟩ : Shape).ReducesTo [1] ⟨1, ![N]⟩)
    (h' : (⟨2, ![N, C]⟩ : Shape).Reduces [1] ⟨1, ![N]⟩)
    (x : FVec Ideal ⟨2, ![N, C]⟩ .f32) (f : ℕ → EReal) (n : Fin N) (hf : ∀ k : Fin C, x (at2 n k) = f k.val) :
    Host.reduceAdd x (constant u .f32 0x00000000#32) h hu (at1 n) = ∑ k ∈ Finset.range C, f k := by
  show Ideal.hostReduceAdd h x (Ideal.ofBits .f32 0x00000000#32) (at1 n) = _
  refine (Ideal.hostReduceAdd_single _ h' _ _ _).trans ?_
  rw [Ideal.ofBits_zero_f32, zero_add, Finset.sum_range]
  exact Finset.sum_congr rfl fun k _ => (congrArg x (lift_row h' n k)).trans (hf k)

/-- The pick of one entry per row, at a column of row numbers beside a column of entry numbers. -/
theorem pick_apply {α : Type} (d : GatherDims ⟨2, ![N, C]⟩ ⟨2, ![N, 2]⟩ ⟨1, ![N]⟩) (hcoll : d.collapsedSliceDims = [0, 1])
    (hob : d.operandBatchingDims = []) (hsim : d.startIndexMap = [0, 1]) (hivd : d.indexVectorDim = 1)
    (x : (⟨2, ![N, C]⟩ : Shape).Idx → α) (idx : IVec ⟨2, ![N, 2]⟩ 32) (n : Fin N) (l : Fin C)
    (h₀ : (idx (at2 n (0 : Fin 2))).toInt = n.val) (h₁ : (idx (at2 n (1 : Fin 2))).toInt = l.val) :
    Host.gather d x idx (at1 n) = x (at2 n l) := by
  unfold Host.gather
  refine congrArg x (funext fun a => Fin.ext ?_)
  have hmem : ∀ a : Fin 2, a ∈ [(0 : Fin 2), 1] := by decide
  have hb : a ∉ d.operandBatchingDims := by rw [hob]; exact List.not_mem_nil
  have hk : a ∉ d.sKept := by rw [GatherDims.mem_sKept, hcoll]; exact fun h => h.1 (hmem a)
  have hm : a ∈ d.startIndexMap := by rw [hsim]; exact hmem a
  have hsl : d.sliceSizes a = 1 := d.slice_collapsed a (by rw [hcoll]; exact hmem a)
  have hsi : ∀ c : Fin 2, ∀ hc : c.val < d.startIndexMap.length, d.siIdx (at1 n) ⟨c.val, hc⟩ = at2 n c := fun c hc => by
    funext b
    match b with
    | ⟨0, _⟩ =>
      unfold GatherDims.siIdx
      rw [dif_neg (by rw [hivd]; simp)]
      unfold GatherDims.siCoord
      apply Fin.ext
      simp only [Fin.val_cast]
      have e : ∀ X : Fin 1, ((Shape.Idx.ofFin n : (⟨1, ![N]⟩ : Shape).Idx) X).val = n.val := fun X => by
        have hX : X = 0 := Subsingleton.elim _ _
        subst hX; rfl
      exact e _
    | ⟨1, _⟩ =>
      unfold GatherDims.siIdx
      rw [dif_pos (by rw [hivd])]
      rfl
  show d.start (at1 n) idx a + d.batchCoord (at1 n) a + d.offCoord (at1 n) a = _
  rw [GatherDims.batchCoord_eq_zero _ _ _ hb, GatherDims.offCoord_eq_zero _ _ _ hk, Nat.add_zero]
  unfold GatherDims.start
  rw [dif_pos hm, hsl]
  have hpos : d.startIndexMap.idxOf a = a.val := by
    rw [hsim]
    exact (show ∀ a : Fin 2, List.idxOf a [(0 : Fin 2), 1] = a.val by decide) a
  have hlen : (2 : ℕ) = d.startIndexMap.length := by rw [hsim]; rfl
  have e := hsi a (by rw [← hlen]; exact a.isLt)
  have e' : d.siIdx (at1 n) ⟨d.startIndexMap.idxOf a, List.idxOf_lt_length_iff.2 hm⟩ = at2 n (a : Fin 2) := by
    rw [← e]; exact congrArg _ (Fin.ext hpos)
  rw [e']
  match a with
  | ⟨0, _⟩ =>
    show min (idx (at2 n (0 : Fin 2))).toInt.toNat (N - 1) = n.val
    have := n.isLt
    rw [h₀, Int.toNat_natCast]
    omega
  | ⟨1, _⟩ =>
    show min (idx (at2 n (1 : Fin 2))).toInt.toNat (C - 1) = l.val
    have := l.isLt
    rw [h₁, Int.toNat_natCast]
    omega

/-- Two columns side by side. -/
theorem columns_apply {α : Type} (h : Shape.Concatenates [⟨2, ![N, 1]⟩, ⟨2, ![N, 1]⟩] ⟨2, ![N, 2]⟩ 1)
    (a b : (⟨2, ![N, 1]⟩ : Shape).Idx → α) (n : Fin N) :
    concatenate ⟨2, ![N, 2]⟩ 1 [⟨⟨2, ![N, 1]⟩, a⟩, ⟨⟨2, ![N, 1]⟩, b⟩] h (at2 n (0 : Fin 2)) = a (at2 n (0 : Fin 1))
    ∧ concatenate ⟨2, ![N, 2]⟩ 1 [⟨⟨2, ![N, 1]⟩, a⟩, ⟨⟨2, ![N, 1]⟩, b⟩] h (at2 n (1 : Fin 2)) = b (at2 n (0 : Fin 1)) := by
  constructor
  · refine (concatenate_pair_apply _ _ _ h _).trans ?_
    refine (dif_pos (show (0 : ℕ) < 1 by decide)).trans (congrArg a (funext fun e => ?_))
    match e with
    | ⟨0, _⟩ => rfl
    | ⟨1, _⟩ => rfl
  · refine (concatenate_pair_apply _ _ _ h _).trans ?_
    refine (dif_neg (show ¬ (1 : ℕ) < 1 by decide)).trans (congrArg b (funext fun e => ?_))
    match e with
    | ⟨0, _⟩ => rfl
    | ⟨1, _⟩ => rfl

/-- A word that is not negative is kept where the negative ones are wrapped. -/
theorem wrap_word (w v : BitVec 32) (h : 0 ≤ w.toInt) : Scalar.select (IntOp.cmpi .slt w 0#32) v w = w := by
  have : IntOp.cmpi .slt w 0#32 = 0#1 := by
    show BitVec.ofBool (w.slt 0#32) = 0#1
    rw [BitVec.slt_eq_decide, show (0#32 : BitVec 32).toInt = 0 from rfl, decide_eq_false (by omega)]
    rfl
  rw [this, ValueIdx.select_zero]

/-- The order "less than" with the zeros identified and the undefined values last, over the extended reals. -/
theorem total_order (a b : EReal) :
    Ideal.cmp .olt
      (Scalar.select (Ideal.cmp .une a a) (Ideal.ofBits .f32 0x7FC00000#32)
        (Scalar.select (Ideal.cmp .oeq a (Ideal.ofBits .f32 0x00000000#32)) (Ideal.ofBits .f32 0x00000000#32) a))
      (Scalar.select (Ideal.cmp .une b b) (Ideal.ofBits .f32 0x7FC00000#32)
        (Scalar.select (Ideal.cmp .oeq b (Ideal.ofBits .f32 0x00000000#32)) (Ideal.ofBits .f32 0x00000000#32) b))
      = BitVec.ofBool (decide (a < b)) := by
  have h : ∀ x : EReal, Scalar.select (Ideal.cmp .une x x) (Ideal.ofBits .f32 0x7FC00000#32)
      (Scalar.select (Ideal.cmp .oeq x (Ideal.ofBits .f32 0x00000000#32)) (Ideal.ofBits .f32 0x00000000#32) x) = x := by
    intro x
    have h₁ : Ideal.cmp .une x x = 0#1 := by simp [Ideal.cmp]
    rw [h₁, ValueIdx.select_zero, Ideal.ofBits_zero_f32]
    by_cases hx : x = 0
    · subst hx
      have h₂ : Ideal.cmp .oeq (0 : EReal) 0 = 1#1 := by simp [Ideal.cmp]
      rw [h₂, ValueIdx.select_one]
    · have h₂ : Ideal.cmp .oeq x 0 = 0#1 := by simp [Ideal.cmp, hx]
      rw [h₂, ValueIdx.select_zero]
  rw [h a, h b]
  rfl

end Cert.Rows

end
-- ==== Proof.Host.lean ====
module

public import proofs.«01_k».proof.Proof.Gen.ReferenceIdeal.Run
public import proofs.«01_k».proof.Proof.Tiles
public import proofs.«01_k».proof.Proof.Rows

@[expose] public section

set_option maxRecDepth 16384

/-!
The reference's entropies and errors, sample by sample: the arrays it computes hold the entropy and the error of each
sample as `Sample.lean` writes them.
-/

noncomputable section

namespace Cert.ReferenceIdeal.Hand

open Idealize.ShloMosaic Idealize.ShloMosaic.TcCoe
open Cert.ReferenceIdeal Cert.ReferenceIdeal.Gen Cert.ReferenceIdeal.Value
open Cert.Sample Cert.Rows
open Cert.KernelIdeal.Hand (sampleScores)

variable (V0 : Valuation τ sig (Elt Ideal))

/-- The logits. -/
def logits : FVec Ideal S16384x1000 .f32 := V0 (Proc.devRef .tc main_arg0)
/-- The labels. -/
def labels : IVec S16384 32 := V0 (Proc.devRef .tc main_arg1)

/-- An entry of the logits is its sample's score. -/
theorem logits_scores (n : Fin 16384) (k : Fin 1000) : logits V0 (at2 n k) = sampleScores (logits V0) n k.val := by
  unfold sampleScores
  refine congrArg _ (funext fun a => ?_)
  match a with
  | 0 => rfl
  | 1 => exact Fin.ext (Nat.mod_eq_of_lt k.isLt).symm

/-- Reducing the logits' second axis leaves one entry per sample. -/
theorem reduces_rows : S16384x1000.Reduces [1] S16384 := by decide +kernel

/-- The list of the rows' maxima. -/
def tops : FVec Ideal S16384 .f32 :=
  maximumf (broadcastInDim S16384 ![] bcast_S_S16384 (constant S_ .f32 0xFF800000#32))
    (Host.reduce FloatOps.maximumf (logits V0) (constant S_ .f32 0xFF800000#32) reducesTo_S16384x1000_S16384_d1 h_S_)

/-- A row's maximum is the sample's greatest score. -/
theorem tops_apply (n : Fin 16384) : tops V0 (at1 n) = top (sampleScores (logits V0) n) := by
  unfold tops top
  rw [max_bot_apply, rowMax_apply h_S_ reducesTo_S16384x1000_S16384_d1 reduces_rows (logits V0)
    (sampleScores (logits V0) n) n (logits_scores V0 n)]

/-- The exponentials. -/
theorem exponentials_apply (n : Fin 16384) (k : Fin 1000) :
    res_main_v6 V0 (at2 n k) = expo (sampleScores (logits V0) n) k.val := by
  have h : res_main_v6 V0 (at2 n k) = Ideal.exp (logits V0 (at2 n k)
      - broadcastInDim S16384x1000 ![0, 1] bcast_S16384x1_S16384x1000_0_1
          (broadcastInDim S16384x1 ![0] bcast_S16384_S16384x1_0 (tops V0)) (at2 n k)) := rfl
  rw [h, spread_apply, tops_apply, logits_scores]
  rfl

/-- The exponentials as an array. -/
def exps : FVec Ideal S16384x1000 .f32 := res_main_v6 V0
/-- The list of the rows' sums. -/
def totals : FVec Ideal S16384 .f32 :=
  Host.reduceAdd (exps V0) (constant S_ .f32 0x00000000#32) reducesTo_S16384x1000_S16384_d1 h_S_

/-- A row's total is the sample's total. -/
theorem totals_apply (n : Fin 16384) : totals V0 (at1 n) = total (sampleScores (logits V0) n) := by
  unfold totals total
  rw [rowSum_apply h_S_ reducesTo_S16384x1000_S16384_d1 reduces_rows (exps V0)
    (expo (sampleScores (logits V0) n)) n (exponentials_apply V0 n)]

/-- The probabilities as an array. -/
def probs : FVec Ideal S16384x1000 .f32 :=
  Host.divf (exps V0) (broadcastInDim S16384x1000 ![0, 1] bcast_S16384x1_S16384x1000_0_1
    (broadcastInDim S16384x1 ![0] bcast_S16384_S16384x1_0 (totals V0)))

/-- The reference's probabilities are that array. -/
theorem probs_eq : res_main_v10 V0 = probs V0 := by
  unfold res_main_v10 probs totals exps
  rfl

/-- The probabilities. -/
theorem probs_apply (n : Fin 16384) (k : Fin 1000) :
    probs V0 (at2 n k) = prob (sampleScores (logits V0) n) k.val := by
  have e : exps V0 (at2 n k) = expo (sampleScores (logits V0) n) k.val := exponentials_apply V0 n k
  unfold probs
  rw [ValueIdx.hostDivf_apply, spread_apply, totals_apply, e]
  rfl

/-- The squared probabilities. -/
theorem squares_apply (n : Fin 16384) (k : Fin 1000) :
    mulf (probs V0) (probs V0) (at2 n k)
      = (fun c => prob (sampleScores (logits V0) n) c * prob (sampleScores (logits V0) n) c) k.val := by
  show probs V0 (at2 n k) * probs V0 (at2 n k) = _
  rw [probs_apply]

/-- The list of the rows' sums of squared probabilities. -/
def collisions : FVec Ideal S16384 .f32 :=
  Host.reduceAdd (mulf (probs V0) (probs V0)) (constant S_ .f32 0x00000000#32) reducesTo_S16384x1000_S16384_d1 h_S_

/-- A row's sum of squares is the sample's sum of squared probabilities. -/
theorem collisions_apply (n : Fin 16384) : collisions V0 (at1 n)
    = ∑ c ∈ Finset.range 1000, prob (sampleScores (logits V0) n) c * prob (sampleScores (logits V0) n) c := by
  unfold collisions
  rw [rowSum_apply h_S_ reducesTo_S16384x1000_S16384_d1 reduces_rows (mulf (probs V0) (probs V0))
    (fun c => prob (sampleScores (logits V0) n) c * prob (sampleScores (logits V0) n) c) n (squares_apply V0 n)]

/-- The entropies as a list. -/
def entropyList : FVec Ideal S16384 .f32 :=
  Host.negf (Host.divf (Host.log (addf (collisions V0) (broadcastInDim S16384 ![] bcast_S_S16384 (constant S_ .f32 0x2B8CBCCC#32))))
    (broadcastInDim S16384 ![] bcast_S_S16384 (id (Host.log (constant S_ .f32 0x40000000#32)))))

/-- The reference's entropies are that list. -/
theorem entropyList_eq : res_main_v20 V0 = entropyList V0 := by
  unfold res_main_v20 entropyList collisions
  rw [probs_eq]

/-- The entropies. -/
theorem entropyList_apply (n : Fin 16384) : entropyList V0 (at1 n) = hostEntropy (sampleScores (logits V0) n) := by
  unfold entropyList
  rw [negLog_apply, collisions_apply]
  rfl

/-- The order in which the reference sorts is "less than". -/
theorem comparator_eq (a b : EReal) : comparator_f32_d0 (F := Ideal) a b = BitVec.ofBool (decide (a < b)) :=
  (show comparator_f32_d0 (F := Ideal) a b = _ from rfl).trans (total_order a b)

/-- The row numbers, wrapped where negative. -/
def rowNumbers : IVec S16384 32 :=
  select (cmpi .slt (res_main_v21 V0) (broadcastInDim S16384 ![] bcast_S_S16384 (constantI S_ 32 0#32)))
    (addi (res_main_v21 V0) (broadcastInDim S16384 ![] bcast_S_S16384 (constantI S_ 32 16384#32))) (res_main_v21 V0)
/-- The class numbers, wrapped where negative. -/
def classNumbers : IVec S16384 32 :=
  select (cmpi .slt (labels V0) (broadcastInDim S16384 ![] bcast_S_S16384 (constantI S_ 32 0#32)))
    (addi (labels V0) (broadcastInDim S16384 ![] bcast_S_S16384 (constantI S_ 32 1000#32))) (labels V0)

/-- The first index of a sample is its number. -/
theorem rowNumbers_apply (n : Fin 16384) : (rowNumbers V0 (at1 n)).toInt = n.val := by
  have e : (BitVec.ofNat 32 n.val).toInt = n.val := StableHlo.Predicate.toInt_ofNat_small _ (by have := n.isLt; omega)
  have h : rowNumbers V0 (at1 n) = Scalar.select (IntOp.cmpi .slt (BitVec.ofNat 32 n.val) 0#32)
    (IntOp.addi (BitVec.ofNat 32 n.val) 16384#32) (BitVec.ofNat 32 n.val) := rfl
  rw [h, wrap_word _ _ (by omega), e]

/-- The second index of a sample is its label, if that is not negative. -/
theorem classNumbers_apply (n : Fin 16384) (h₀ : 0 ≤ (labels V0 (at1 n)).toInt) :
    classNumbers V0 (at1 n) = labels V0 (at1 n) := wrap_word _ _ h₀

/-- The errors as a list. -/
def errorList : FVec Ideal S16384 .f32 :=
  subf (broadcastInDim S16384 ![] bcast_S_S16384 (constant S_ .f32 0x3F800000#32))
    (Host.gather gather_S16384x1000_S16384x2_S16384_n_01_n_n_01_1_11 (probs V0)
      (concatenate S16384x2 1 [⟨S16384x1, broadcastInDim S16384x1 ![0] bcast_S16384_S16384x1_0 (rowNumbers V0)⟩,
        ⟨S16384x1, broadcastInDim S16384x1 ![0] bcast_S16384_S16384x1_0 (classNumbers V0)⟩]
        concatenates_S16384x1_S16384x1_S16384x2_d1))

/-- The reference's errors are that list. -/
theorem errorList_eq : res_main_v37 V0 = errorList V0 := by
  unfold res_main_v37 errorList rowNumbers classNumbers labels
  rw [probs_eq]

/-- The errors, when the label names a class. -/
theorem errorList_apply (n : Fin 16384) (h₀ : 0 ≤ (labels V0 (at1 n)).toInt) (h₁ : (labels V0 (at1 n)).toInt < 1000) :
    errorList V0 (at1 n) = hostError (sampleScores (logits V0) n) (labels V0 (at1 n)).toNat := by
  have hn : (labels V0 (at1 n)).toInt = ((labels V0 (at1 n)).toNat : ℤ) := by
    rw [BitVec.toInt_eq_toNat_cond] at h₀ ⊢
    split_ifs at h₀ ⊢ with h
    · rfl
    · have := (labels V0 (at1 n)).isLt; omega
  have hl : (labels V0 (at1 n)).toNat < 1000 := by omega
  unfold errorList
  rw [constSub_apply, Ideal.ofBits_one_f32, pick_apply gather_S16384x1000_S16384x2_S16384_n_01_n_n_01_1_11 rfl rfl rfl rfl _ _ n
    ⟨(labels V0 (at1 n)).toNat, hl⟩ ?_ ?_, probs_apply]
  · rfl
  · rw [(columns_apply _ _ _ n).1, column_apply, rowNumbers_apply]
  · rw [(columns_apply _ _ _ n).2, column_apply, classNumbers_apply _ _ h₀, hn]

end Cert.ReferenceIdeal.Hand

end
-- ==== Proof.Gaps.lean ====
module

public import proofs.«01_k».proof.Proof.Rows

@[expose] public section

/-!
One bin: the gap between the means of two lists over the entries that lie between two edges, and the reference's
spelling of it, for lists of any length.
-/

noncomputable section

namespace Cert.Gaps

open Idealize.ShloMosaic Cert.Rows

variable {N : ℕ}

/-- Whether a value lies between two edges. -/
def within (p : CmpFPredicate) (lo hi x : EReal) : BitVec 1 := IntOp.andi (Ideal.cmp p x lo) (Ideal.cmp .ole x hi)

/-- The number of the entries that lie in the bin. -/
def countOf (p : CmpFPredicate) (lo hi : EReal) (u : Fin N → EReal) : EReal :=
  ∑ n, (((within p lo hi (u n)).toNat : ℝ) : EReal)

/-- The mean of `v` over the entries of `u` that lie in the bin. -/
def meanOf (p : CmpFPredicate) (lo hi : EReal) (u v : Fin N → EReal) : EReal :=
  Ideal.div (∑ n, Scalar.select (within p lo hi (u n)) (v n) 0) (max (countOf p lo hi u) 1)

/-- The distance of the two means; zero for an empty bin. -/
def gapOf (p : CmpFPredicate) (lo hi : EReal) (u e : Fin N → EReal) : EReal :=
  Scalar.select (Ideal.cmp .ogt (countOf p lo hi u) 0)
    (max (meanOf p lo hi u u - meanOf p lo hi u e) (-(meanOf p lo hi u u - meanOf p lo hi u e))) 0

/-- The places of a list are the numbers below its length. -/
def places : Fin N ≃ (⟨1, ![N]⟩ : Shape).Idx where
  toFun := fun n => at1 n
  invFun := fun j => j 0
  left_inv := fun _ => rfl
  right_inv := fun j => funext fun a => by
    match a with
    | ⟨0, _⟩ => rfl

/-- The sum of a list. -/
theorem sum_list {u : Shape} (hu : 0 < u.numel) {t : Shape} (ht : ∀ b, t.size b = 1)
    (h : (⟨1, ![N]⟩ : Shape).ReducesTo [0] t) (x : FVec Ideal ⟨1, ![N]⟩ .f32) (j : t.Idx) :
    Host.reduceAdd x (constant u .f32 0x00000000#32) h hu j = ∑ n : Fin N, x (at1 n) := by
  show Ideal.hostReduceAdd h x (Ideal.ofBits .f32 0x00000000#32) j = _
  refine (Ideal.hostReduceAdd_total _ ht _ _ _).trans ?_
  rw [Ideal.ofBits_zero_f32, zero_add]
  exact (Equiv.sum_comp places x).symm

/-- One entry of a list, spread over a list: the reading of an edge. -/
theorem edge_read {α : Type} {M : ℕ} (i : ℕ) (hi : i < M) (hs : (⟨1, ![M]⟩ : Shape).Slices ![i] ⟨1, ![1]⟩)
    (hc : (⟨1, ![1]⟩ : Shape).ShapeCasts ⟨0, ![]⟩)
    (hb : (⟨0, ![]⟩ : Shape).BroadcastsInDim ⟨1, ![N]⟩ (![] : Fin 0 → Fin 1))
    (x : (⟨1, ![M]⟩ : Shape).Idx → α) (j : (⟨1, ![N]⟩ : Shape).Idx) :
    broadcastInDim ⟨1, ![N]⟩ (![] : Fin 0 → Fin 1) hb (shapeCast ⟨0, ![]⟩ (extractStridedSlice ⟨1, ![1]⟩ ![i] x hs) hc) j
      = x (at1 ⟨i, hi⟩) := by
  rw [ValueIdx.broadcastInDim_scalar_apply]
  refine (shapeCast_apply _ hc _ (at1 (0 : Fin 1)) ?_).trans ?_
  · have h₁ := ((⟨1, ![1]⟩ : Shape).rowMajor (at1 (0 : Fin 1))).isLt
    have h₂ := ((⟨0, ![]⟩ : Shape).rowMajor ValueIdx.ix0).isLt
    have e₁ : (⟨1, ![1]⟩ : Shape).numel = 1 := by decide
    have e₂ : (⟨0, ![]⟩ : Shape).numel = 1 := by decide
    omega
  · refine extractStridedSlice_apply _ x hs _ _ fun a => ?_
    match a with
    | ⟨0, _⟩ => rfl

/-- The reference's mask of a bin. -/
def maskArr (p : CmpFPredicate) (u lo hi : FVec Ideal ⟨1, ![N]⟩ .f32) : IVec ⟨1, ![N]⟩ 1 :=
  andi (cmpf p u lo) (cmpf .ole u hi)

/-- The reference's gap of a bin, from its mask. -/
def gapArr (h : (⟨1, ![N]⟩ : Shape).ReducesTo [0] ⟨0, ![]⟩) (hu : 0 < (⟨0, ![]⟩ : Shape).numel)
    (hb : (⟨0, ![]⟩ : Shape).BroadcastsInDim ⟨1, ![N]⟩ (![] : Fin 0 → Fin 1))
    (mask : IVec ⟨1, ![N]⟩ 1) (u e : FVec Ideal ⟨1, ![N]⟩ .f32) : FVec Ideal ⟨0, ![]⟩ .f32 :=
  let count : FVec Ideal ⟨0, ![]⟩ .f32 := Host.reduceAdd (uitofp .f32 mask) (constant ⟨0, ![]⟩ .f32 0x00000000#32) h hu
  let denom := maximumf count (constant ⟨0, ![]⟩ .f32 0x3F800000#32)
  let zeros := broadcastInDim ⟨1, ![N]⟩ (![] : Fin 0 → Fin 1) hb (id (constant ⟨0, ![]⟩ .f32 0x00000000#32))
  select (cmpf .ogt count (constant ⟨0, ![]⟩ .f32 0x00000000#32))
    (Host.absf (subf
      (Host.divf (Host.reduceAdd (select mask u zeros) (constant ⟨0, ![]⟩ .f32 0x00000000#32) h hu) denom)
      (Host.divf (Host.reduceAdd (select mask e zeros) (constant ⟨0, ![]⟩ .f32 0x00000000#32) h hu) denom)))
    (constant ⟨0, ![]⟩ .f32 0x00000000#32)

/-- The gap of a bin from its count and its two sums, at an entry. -/
theorem gap_form {t : Shape} (c x y : FVec Ideal t .f32) (j : t.Idx) :
    select (cmpf .ogt c (constant t .f32 0x00000000#32))
      (Host.absf (subf (Host.divf x (maximumf c (constant t .f32 0x3F800000#32)))
        (Host.divf y (maximumf c (constant t .f32 0x3F800000#32))))) (constant t .f32 0x00000000#32) j
      = Scalar.select (Ideal.cmp .ogt (c j) (Ideal.ofBits .f32 0x00000000#32))
        (max (Ideal.div (x j) (max (c j) (Ideal.ofBits .f32 0x3F800000#32)) - Ideal.div (y j) (max (c j) (Ideal.ofBits .f32 0x3F800000#32)))
          (-(Ideal.div (x j) (max (c j) (Ideal.ofBits .f32 0x3F800000#32)) - Ideal.div (y j) (max (c j) (Ideal.ofBits .f32 0x3F800000#32)))))
        (Ideal.ofBits .f32 0x00000000#32) := rfl

/-- The reference's gap of a bin is the gap between its edges. -/
theorem gapArr_apply (h : (⟨1, ![N]⟩ : Shape).ReducesTo [0] ⟨0, ![]⟩) (hu : 0 < (⟨0, ![]⟩ : Shape).numel)
    (hb : (⟨0, ![]⟩ : Shape).BroadcastsInDim ⟨1, ![N]⟩ (![] : Fin 0 → Fin 1))
    (p : CmpFPredicate) (u e lo hi : FVec Ideal ⟨1, ![N]⟩ .f32) (a b : EReal)
    (hlo : ∀ n, lo (at1 n) = a) (hhi : ∀ n, hi (at1 n) = b) (j : (⟨0, ![]⟩ : Shape).Idx) :
    gapArr h hu hb (maskArr p u lo hi) u e j = gapOf p a b (fun n => u (at1 n)) (fun n => e (at1 n)) := by
  have hm : ∀ n, maskArr p u lo hi (at1 n) = within p a b (u (at1 n)) := fun n => by
    show IntOp.andi (Ideal.cmp p (u (at1 n)) (lo (at1 n))) (Ideal.cmp .ole (u (at1 n)) (hi (at1 n))) = _
    rw [hlo, hhi]; rfl
  have hc : Host.reduceAdd (uitofp .f32 (maskArr p u lo hi) : FVec Ideal ⟨1, ![N]⟩ .f32) (constant ⟨0, ![]⟩ .f32 0x00000000#32) h hu j
      = countOf p a b (fun n => u (at1 n)) := by
    rw [sum_list hu (fun b => b.elim0)]
    refine Finset.sum_congr rfl fun n _ => ?_
    show (((maskArr p u lo hi (at1 n)).toNat : ℝ) : EReal) = _
    rw [hm]
  have hs : ∀ v : FVec Ideal ⟨1, ![N]⟩ .f32, Host.reduceAdd (select (maskArr p u lo hi) v
        (broadcastInDim ⟨1, ![N]⟩ (![] : Fin 0 → Fin 1) hb (id (constant ⟨0, ![]⟩ .f32 0x00000000#32))))
        (constant ⟨0, ![]⟩ .f32 0x00000000#32) h hu j
      = ∑ n, Scalar.select (within p a b (u (at1 n))) (v (at1 n)) 0 := fun v => by
    rw [sum_list hu (fun b => b.elim0)]
    refine Finset.sum_congr rfl fun n _ => ?_
    show Scalar.select (maskArr p u lo hi (at1 n)) (v (at1 n)) (Ideal.ofBits .f32 0x00000000#32) = _
    rw [hm, Ideal.ofBits_zero_f32]
  refine (gap_form _ _ _ j).trans ?_
  rw [hc, hs, hs, Ideal.ofBits_zero_f32, Ideal.ofBits_one_f32]
  rfl

end Cert.Gaps

end
-- ==== Proof.Bins.lean ====
module

public import proofs.«01_k».proof.Proof.Sort
public import proofs.«01_k».proof.Proof.Gaps

@[expose] public section

/-!
The kernel's bins: what it computes on the two tiles is the gap of each bin over the lists the tiles hold, and their sum.
-/

noncomputable section

namespace Cert.KernelIdeal.Hand

open Idealize.ShloMosaic
open Cert.KernelIdeal.Gen
open Cert.Gaps

/-- The places of a tile under a leading axis of one are the positions of its entries. -/
def tilePlaces : Fin 16384 ≃ S1x128x128.Idx where
  toFun := fun n a => match a with
    | 0 => ⟨0, by decide⟩
    | 1 => ⟨n.val / 128, by have := n.isLt; show _ < 128; omega⟩
    | 2 => ⟨n.val % 128, by show _ < 128; omega⟩
  invFun := fun j => ⟨(j 1).val * 128 + (j 2).val, by
    have h₁ : (j 1).val < 128 := (j 1).isLt
    have h₂ : (j 2).val < 128 := (j 2).isLt
    omega⟩
  left_inv := fun n => Fin.ext (by show n.val / 128 * 128 + n.val % 128 = n.val; omega)
  right_inv := fun j => funext fun a => by
    have h₀ : (j 0).val < 1 := (j 0).isLt
    have h₁ : (j 1).val < 128 := (j 1).isLt
    have h₂ : (j 2).val < 128 := (j 2).isLt
    match a with
    | 0 => exact Fin.ext (by show 0 = (j 0).val; omega)
    | 1 => exact Fin.ext (by show ((j 1).val * 128 + (j 2).val) / 128 = (j 1).val; omega)
    | 2 => exact Fin.ext (by show ((j 1).val * 128 + (j 2).val) % 128 = (j 2).val; omega)

/-- The sum of a tile is the sum of its entries. -/
theorem sumTile_apply (v : FVec Ideal S128x128 .f32) (j : S1x1.Idx) : sumTile v j = ∑ n : Fin 16384, v (cellOf n) := by
  unfold sumTile
  refine (Ideal.multiReduction_add_total (shapeCast S1x128x128 v shapeCasts_S128x128_S1x128x128) 0x00000000#32
    reduces_S1x128x128_S1 (fun b => ?_) (.inl rfl) rfl _).trans ?_
  · match b with
    | ⟨0, _⟩ => rfl
  · rw [← Equiv.sum_comp tilePlaces]
    refine Finset.sum_congr rfl fun n _ => ?_
    refine shapeCast_apply v shapeCasts_S128x128_S1x128x128 _ _ ?_
    rw [Shape.rowMajor_val_two, Shape.rowMajor_val_three]
    show n.val / 128 * 128 + n.val % 128 = (0 * 128 + n.val / 128) * 128 + n.val % 128
    omega

/-- An edge spread over the tile. -/
theorem spreadEdge_apply (x : FVec Ideal S1x1 .f32) (j : S128x128.Idx) (z : S1x1.Idx) :
    broadcastTo S128x128 x broadcasts_S1x1_S128x128 j = x z := by
  refine broadcastTo_apply _ _ _ _ fun a => ?_
  match a with
  | ⟨0, _⟩ => have h : (z 0).val < 1 := (z 0).isLt; show (z 0).val = 0; omega
  | ⟨1, _⟩ => have h : (z 1).val < 1 := (z 1).isLt; show (z 1).val = 0; omega

variable (u e : FVec Ideal S128x128 .f32) (U E : Fin 16384 → EReal) (hu : ∀ n, u (cellOf n) = U n) (he : ∀ n, e (cellOf n) = E n)

include hu in
/-- The mask of a bin. -/
theorem inBin_apply (p : CmpFPredicate) (lo hi : FVec Ideal S1x1 .f32) (z : S1x1.Idx) (n : Fin 16384) :
    inBin p u lo hi (cellOf n) = within p (lo z) (hi z) (U n) := by
  show IntOp.andi (Ideal.cmp p (u (cellOf n)) (broadcastTo S128x128 lo _ (cellOf n)))
    (Ideal.cmp .ole (u (cellOf n)) (broadcastTo S128x128 hi _ (cellOf n))) = _
  rw [spreadEdge_apply _ _ z, spreadEdge_apply _ _ z, hu]
  rfl

include hu in
/-- The count of a bin. -/
theorem binCount_apply (p : CmpFPredicate) (lo hi : FVec Ideal S1x1 .f32) (z : S1x1.Idx) :
    (binCount (inBin p u lo hi) : FVec Ideal S1x1 .f32) z = countOf p (lo z) (hi z) U := by
  unfold binCount
  rw [sitofp_extui_eq_uitofp, sumTile_apply]
  refine Finset.sum_congr rfl fun n _ => ?_
  show (((inBin p u lo hi (cellOf n)).toNat : ℝ) : EReal) = _
  rw [inBin_apply u U hu p lo hi z]

/-- A quotient by a count, or by one. -/
theorem mean_form {t : Shape} (x c : FVec Ideal t .f32) (j : t.Idx) :
    divf x (maximumf c (broadcast t (Scalar.ofBits .f32 0x3F800000#32 : Ideal .f32))) j
      = Ideal.div (x j) (max (c j) (Ideal.ofBits .f32 0x3F800000#32)) := rfl

/-- A distance where a count is positive. -/
theorem distance_form {t : Shape} (c x y : FVec Ideal t .f32) (j : t.Idx) :
    select (cmpf .ogt c (broadcast t (Scalar.ofBits .f32 0x00000000#32 : Ideal .f32)))
      (absf (subf x y)) (broadcast t (Scalar.ofBits .f32 0x00000000#32 : Ideal .f32)) j
      = Scalar.select (Ideal.cmp .ogt (c j) (Ideal.ofBits .f32 0x00000000#32)) (max (x j - y j) (-(x j - y j)))
        (Ideal.ofBits .f32 0x00000000#32) := rfl

/-- A quotient by a constant. -/
theorem quotient_form {t : Shape} (x : FVec Ideal t .f32) (w : BitVec 32) (j : t.Idx) :
    divf x (broadcast t (Scalar.ofBits .f32 w : Ideal .f32)) j = Ideal.div (x j) (Ideal.ofBits .f32 w) := rfl

include hu in
/-- The mean over a bin. -/
theorem binMean_apply (p : CmpFPredicate) (lo hi : FVec Ideal S1x1 .f32) (z : S1x1.Idx) (v : FVec Ideal S128x128 .f32)
    (V : Fin 16384 → EReal) (hv : ∀ n, v (cellOf n) = V n) :
    binMean (inBin p u lo hi) v z = meanOf p (lo z) (hi z) U V := by
  unfold binMean
  rw [mean_form]
  rw [binCount_apply u U hu, sumTile_apply, Ideal.ofBits_one_f32]
  have e : ∀ n : Fin 16384, select (inBin p u lo hi) v (broadcast S128x128 (Scalar.ofBits .f32 0x00000000#32 : Ideal .f32)) (cellOf n)
      = Scalar.select (within p (lo z) (hi z) (U n)) (V n) 0 := fun n => by
    show Scalar.select (inBin p u lo hi (cellOf n)) (v (cellOf n)) (Ideal.ofBits .f32 0x00000000#32) = _
    rw [inBin_apply u U hu p lo hi z, hv, Ideal.ofBits_zero_f32]
  rw [Finset.sum_congr rfl fun n _ => e n]
  rfl

include hu he in
/-- The gap of a bin. -/
theorem binGap_apply (p : CmpFPredicate) (lo hi : FVec Ideal S1x1 .f32) (z : S1x1.Idx) :
    binGap (inBin p u lo hi) u e z = gapOf p (lo z) (hi z) U E := by
  unfold binGap
  rw [distance_form]
  rw [binCount_apply u U hu, binMean_apply u U hu p lo hi z u U hu, binMean_apply u U hu p lo hi z e E he,
    Ideal.ofBits_zero_f32]
  rfl

/-- The order that decides whether the lower edge belongs to bin `i`. -/
def lowOrder (i : ℕ) : CmpFPredicate := if i < 14 then .ogt else .oge

include hu he in
/-- The sum of the gaps of the first bins. -/
theorem gapsUpTo_apply (s : FVec Ideal S128x128 .f32) (z : S1x1.Idx) : ∀ n : ℕ,
    gapsUpTo u e s n z = ∑ i ∈ Finset.range n, gapOf (lowOrder i) (edge s i z) (edge s (i + 1) z) U E
  | 0 => Ideal.ofBits_zero_f32
  | n + 1 => by
    show gapsUpTo u e s n z + binGap (inBin (lowOrder n) u (edge s n) (edge s (n + 1))) u e z = _
    rw [gapsUpTo_apply s z n, binGap_apply u e U E hu he, Finset.sum_range_succ]

/-- One entry of a tile. -/
theorem entry_apply (s : FVec Ideal S128x128 .f32) (p : Fin 16384) (z : S1x1.Idx) : entry s p.val z = s (cellOf p) := by
  have h₀ : (z 0).val < 1 := (z 0).isLt
  have h₁ : (z 1).val < 1 := (z 1).isLt
  have hp := p.isLt
  refine extractStridedSlice_apply _ s _ _ _ fun a => ?_
  match a with
  | 0 => show p.val / 128 = p.val / 128 % 128 + (z 0).val; omega
  | 1 => show p.val % 128 = p.val % 128 + (z 1).val; omega

/-- A lower rank is a place of the sorted list. -/
theorem rankLow_lt (i : ℕ) : rankLow i < 16384 := by
  unfold rankLow
  generalize Fin.ofNat 16 i = k
  revert k; decide
/-- An upper rank is a place of the sorted list. -/
theorem rankHigh_lt (i : ℕ) : rankHigh i < 16384 := by
  unfold rankHigh
  generalize Fin.ofNat 16 i = k
  revert k; decide

/-- The edge `i` between the entries of a list. -/
def edgeOf (S : Fin 16384 → EReal) (i : ℕ) : EReal :=
  S ⟨rankLow i, rankLow_lt i⟩ * Ideal.ofBits .f32 (weightLow i) + S ⟨rankHigh i, rankHigh_lt i⟩ * Ideal.ofBits .f32 (weightHigh i)

/-- The kernel's edge is the edge of the sorted list. -/
theorem edge_apply (s : FVec Ideal S128x128 .f32) (S : Fin 16384 → EReal) (hs : ∀ n, s (cellOf n) = S n) (i : ℕ) (z : S1x1.Idx) :
    edge s i z = edgeOf S i := by
  show entry s (rankLow i) z * Ideal.ofBits .f32 (weightLow i) + entry s (rankHigh i) z * Ideal.ofBits .f32 (weightHigh i) = _
  rw [entry_apply s ⟨rankLow i, rankLow_lt i⟩, entry_apply s ⟨rankHigh i, rankHigh_lt i⟩, hs, hs]
  rfl

include hu he in
/-- What the kernel stores: the mean of the fifteen gaps. -/
theorem calibration_apply (S : Fin 16384 → EReal) (hs : ∀ n, sortUpTo 14 u (cellOf n) = S n) (z : S1x1.Idx) :
    calibration u e z = Ideal.div (∑ i ∈ Finset.range 15, gapOf (lowOrder i) (edgeOf S i) (edgeOf S (i + 1)) U E)
      (Ideal.ofBits .f32 0x41700000#32) := by
  unfold calibration
  rw [quotient_form, gapsUpTo_apply u e U E hu he]
  rw [Finset.sum_congr rfl fun i _ => by rw [edge_apply _ S hs, edge_apply _ S hs]]

end Cert.KernelIdeal.Hand

end
-- ==== Proof.Edges.lean ====
module

public import proofs.«01_k».proof.Proof.Host
public import proofs.«01_k».proof.Proof.Bins

@[expose] public section

set_option maxRecDepth 16384

/-!
The reference's edges: the sixteen positions, their floors and ceilings as ranks, their fractions as weights, and the
sorted list read at the ranks.
-/

noncomputable section

namespace Cert.ReferenceIdeal.Hand

open Idealize.ShloMosaic Idealize.ShloMosaic.TcCoe
open Cert.ReferenceIdeal Cert.ReferenceIdeal.Gen Cert.ReferenceIdeal.Value
open Cert.Sample Cert.Rows
open Cert.KernelIdeal.Hand (rankLow rankHigh weightLow weightHigh rankLow_lt rankHigh_lt edgeOf)

/-- The fraction of a position, in units of 1/8192. -/
def part (i : ℕ) : ℕ := ![0, 1639, 3278, 4918, 6556, 0, 1644, 3280, 4920, 6560, 0, 1640, 3288, 4928, 6560, 0] (Fin.ofNat 16 i)

/-- A fraction is below one. -/
theorem part_lt (i : ℕ) : part i < 8192 := by
  unfold part
  generalize Fin.ofNat 16 i = k
  revert k; decide

/-- The upper rank is the lower one for a whole position, else the next. -/
theorem rankHigh_eq (i : ℕ) : rankHigh i = if part i = 0 then rankLow i else rankLow i + 1 := by
  unfold rankHigh rankLow part
  generalize Fin.ofNat 16 i = k
  revert k; decide

/-- A number below sixteen is its own remainder. -/
theorem ofNat_self (i : Fin 16) : Fin.ofNat 16 i.val = i := Fin.ext (Nat.mod_eq_of_lt i.isLt)

/-- A position is its lower rank plus its fraction. -/
theorem position_word (i : Fin 16) : Ideal.ofBits .f32 (lit0 i) = (((rankLow i.val : ℝ) + (part i.val : ℝ) / 8192 : ℝ) : EReal) := by
  unfold rankLow part
  rw [ofNat_self]
  fin_cases i <;> (simp [lit0, Ideal.ofBits, Ideal.ieee, -EReal.coe_mul, -EReal.coe_add]; try norm_num)

/-- The lower weight is one minus the fraction. -/
theorem weightLow_word (i : Fin 16) : Ideal.ofBits .f32 (weightLow i.val) = ((1 - (part i.val : ℝ) / 8192 : ℝ) : EReal) := by
  unfold weightLow part
  rw [ofNat_self]
  fin_cases i <;> (simp [Ideal.ofBits, Ideal.ieee, -EReal.coe_mul, -EReal.coe_sub]; try norm_num)

/-- The upper weight is the fraction. -/
theorem weightHigh_word (i : Fin 16) : Ideal.ofBits .f32 (weightHigh i.val) = (((part i.val : ℝ) / 8192 : ℝ) : EReal) := by
  unfold weightHigh part
  rw [ofNat_self]
  fin_cases i <;> (simp [Ideal.ofBits, Ideal.ieee, -EReal.coe_mul]; try norm_num)

/-- The floor of a rank and a fraction is the rank. -/
theorem floor_position (a q : ℕ) (hq : q < 8192) : ⌊(a : ℝ) + (q : ℝ) / 8192⌋ = (a : ℤ) := by
  have h : (q : ℝ) < 8192 := by exact_mod_cast hq
  have h₀ : (0 : ℝ) ≤ q := Nat.cast_nonneg q
  rw [Int.floor_eq_iff]
  constructor
  · push_cast; linarith [div_nonneg h₀ (by norm_num : (0 : ℝ) ≤ 8192)]
  · push_cast
    have : (q : ℝ) / 8192 < 1 := by rw [div_lt_one (by norm_num)]; exact h
    linarith

/-- The ceiling of a rank and a fraction is the rank, or the next if the fraction is not zero. -/
theorem ceil_position (a q : ℕ) (hq : q < 8192) : ⌈(a : ℝ) + (q : ℝ) / 8192⌉ = ((if q = 0 then a else a + 1 : ℕ) : ℤ) := by
  have h : (q : ℝ) < 8192 := by exact_mod_cast hq
  split_ifs with h₀
  · subst h₀; simp
  · have hp : (0 : ℝ) < q := by exact_mod_cast Nat.pos_of_ne_zero h₀
    rw [Int.ceil_eq_iff]
    constructor
    · push_cast
      have : 0 < (q : ℝ) / 8192 := div_pos hp (by norm_num)
      linarith
    · push_cast
      have : (q : ℝ) / 8192 < 1 := by rw [div_lt_one (by norm_num)]; exact h
      linarith

/-- A rank as a word. -/
theorem rank_word (a : ℕ) (ha : a < 16384) : (Ideal.fptosi 32 ((((a : ℤ) : ℝ) : ℝ) : EReal)).toInt = a := by
  unfold Ideal.fptosi
  rw [Ideal.toIntClamped_coe, if_pos (by positivity), Int.floor_intCast, BitVec.toInt_ofInt]
  rw [show max (-((2 ^ (32 - 1) : ℕ) : ℤ)) (min (((2 ^ (32 - 1) : ℕ) : ℤ) - 1) (a : ℤ)) = a by
    norm_num; omega]
  rw [Int.bmod_def]
  norm_num
  omega

variable (V0 : Valuation τ sig (Elt Ideal))

/-- The positions, read. -/
theorem position_apply (i : Fin 16) : (res_main_cst V0 : FVec Ideal S16 .f32) (at1 i) = (((rankLow i.val : ℝ) + (part i.val : ℝ) / 8192 : ℝ) : EReal) := by
  refine Eq.trans ?_ (position_word i)
  show Ideal.ofBits .f32 (lit0 (S16.rowMajor (at1 i))) = _
  have e : S16.rowMajor (at1 i) = i := Fin.ext (Shape.rowMajor_val_one (d := ![16]) _)
  rw [e]

/-- The positions' floors are the lower ranks. -/
theorem floor_apply (i : Fin 16) : (res_main_v38 V0 : FVec Ideal S16 .f32) (at1 i) = ((((rankLow i.val : ℕ) : ℤ) : ℝ) : EReal) := by
  show Ideal.liftRound Int.floor ((res_main_cst V0 : FVec Ideal S16 .f32) (at1 i)) = _
  rw [position_apply, Ideal.liftRound_coe, floor_position _ _ (part_lt _)]

/-- The positions' ceilings are the upper ranks. -/
theorem ceil_apply (i : Fin 16) : (Host.ceil (res_main_cst V0) : FVec Ideal S16 .f32) (at1 i) = ((((rankHigh i.val : ℕ) : ℤ) : ℝ) : EReal) := by
  show Ideal.liftRound Int.ceil ((res_main_cst V0 : FVec Ideal S16 .f32) (at1 i)) = _
  rw [position_apply, Ideal.liftRound_coe, ceil_position _ _ (part_lt _), rankHigh_eq]

/-- The positions less their floors are the fractions. -/
theorem fraction_apply (i : Fin 16) : (res_main_v40 V0 : FVec Ideal S16 .f32) (at1 i) = (((part i.val : ℝ) / 8192 : ℝ) : EReal) := by
  have form : ∀ a b : FVec Ideal S16 .f32, subf a b (at1 i) = a (at1 i) - b (at1 i) := fun _ _ => rfl
  unfold res_main_v40
  rw [form, position_apply, floor_apply, ← EReal.coe_sub]
  congr 1
  push_cast
  ring

/-- Ranks read from an array of words that holds them, wrapped where negative. -/
def wrapped (x : IVec S16 32) : IVec S16x1 32 :=
  broadcastInDim S16x1 ![0] bcast_S16_S16x1_0 (select (cmpi .slt x (broadcastInDim S16 ![] bcast_S_S16 (constantI S_ 32 0#32)))
    (addi x (broadcastInDim S16 ![] bcast_S_S16 (constantI S_ 32 16384#32))) x)

/-- A rank that is not negative is read as it is. -/
theorem wrapped_apply (x : IVec S16 32) (i : Fin 16) (a : ℕ) (h : (x (at1 i)).toInt = a) :
    (wrapped x (StableHlo.Predicate.ixP i)).toInt = a := by
  have e : (StableHlo.Predicate.ixP i : S16x1.Idx) = at2 i (0 : Fin 1) := by
    funext b
    match b with
    | ⟨0, _⟩ => rfl
    | ⟨1, _⟩ => rfl
  unfold wrapped
  rw [e, column_apply]
  show (Scalar.select (IntOp.cmpi .slt (x (at1 i)) 0#32) _ (x (at1 i))).toInt = _
  rw [wrap_word _ _ (by omega), h]

/-- A list read at the ranks. -/
theorem take_apply (s : FVec Ideal S16384 .f32) (x : IVec S16 32) (i : Fin 16) (a : ℕ) (ha : a < 16384) (h : (x (at1 i)).toInt = a) :
    Host.gather gather_S16384_S16x1_S16_n_0_n_n_0_1_1 s (wrapped x) (at1 i) = s (at1 ⟨a, ha⟩) := by
  refine (StableHlo.Predicate.gather_take gather_S16384_S16x1_S16_n_0_n_n_0_1_1 rfl rfl rfl rfl s (wrapped x) i (by decide)).trans ?_
  refine congrArg (fun k : Fin 16384 => s (at1 k)) (Fin.ext ?_)
  show min (wrapped x (StableHlo.Predicate.ixP i)).toInt.toNat (16384 - 1) = a
  rw [wrapped_apply x i a h, Int.toNat_natCast]
  omega

/-- The sorted list. -/
def sorted : FVec Ideal S16384 .f32 := res_main_v43 V0

/-- The edges as an array. -/
def edges : FVec Ideal S16 .f32 :=
  addf (mulf (Host.gather gather_S16384_S16x1_S16_n_0_n_n_0_1_1 (sorted V0) (wrapped (res_main_v44 V0)))
      (subf (broadcastInDim S16 ![] bcast_S_S16 (constant S_ .f32 0x3F800000#32)) (res_main_v40 V0)))
    (mulf (Host.gather gather_S16384_S16x1_S16_n_0_n_n_0_1_1 (sorted V0) (wrapped (res_main_v53 V0))) (res_main_v40 V0))

/-- The reference's edges are that array. -/
theorem edges_eq : res_main_v62 V0 = edges V0 := by
  unfold res_main_v62 edges wrapped sorted
  rfl

/-- The edges are those between the entries of the sorted list. -/
theorem edges_apply (i : Fin 16) : edges V0 (at1 i) = edgeOf (fun n => sorted V0 (at1 n)) i.val := by
  have h₁ : ((res_main_v44 V0 : IVec S16 32) (at1 i)).toInt = rankLow i.val := by
    show (Ideal.fptosi 32 ((res_main_v38 V0 : FVec Ideal S16 .f32) (at1 i))).toInt = _
    rw [floor_apply]
    exact rank_word _ (rankLow_lt _)
  have h₂ : ((res_main_v53 V0 : IVec S16 32) (at1 i)).toInt = rankHigh i.val := by
    show (Ideal.fptosi 32 ((Host.ceil (res_main_cst V0) : FVec Ideal S16 .f32) (at1 i))).toInt = _
    rw [ceil_apply]
    exact rank_word _ (rankHigh_lt _)
  have h₃ : subf (broadcastInDim S16 ![] bcast_S_S16 (constant S_ .f32 0x3F800000#32)) (res_main_v40 V0 : FVec Ideal S16 .f32) (at1 i)
      = Ideal.ofBits .f32 (weightLow i.val) := by
    rw [constSub_apply, fraction_apply, Ideal.ofBits_one_f32, weightLow_word, EReal.coe_sub]
    rfl
  have form : ∀ a b c d : FVec Ideal S16 .f32, addf (mulf a b) (mulf c d) (at1 i)
      = a (at1 i) * b (at1 i) + c (at1 i) * d (at1 i) := fun _ _ _ _ => rfl
  unfold edges edgeOf
  rw [form, take_apply _ _ i _ (rankLow_lt _) h₁, take_apply _ _ i _ (rankHigh_lt _) h₂, h₃, fraction_apply, weightHigh_word]

end Cert.ReferenceIdeal.Hand

end
-- ==== Proof.Total.lean ====
module

public import proofs.«01_k».proof.Proof.Edges

@[expose] public section

set_option maxRecDepth 16384

/-!
The reference's result: its fifteen gaps, their total and its fifteenth part.
-/

noncomputable section

namespace Cert.ReferenceIdeal.Hand

open Idealize.ShloMosaic Idealize.ShloMosaic.TcCoe
open Cert.ReferenceIdeal Cert.ReferenceIdeal.Gen Cert.ReferenceIdeal.Value
open Cert.Sample Cert.Rows Cert.Gaps
open Cert.KernelIdeal.Hand (lowOrder edgeOf)

/-- One entry may be cut out of the sixteen at every place. -/
theorem slices (i : Fin 16) : S16.Slices ![i.val] S1 := by
  refine ⟨rfl, fun a => ?_⟩
  match a with
  | ⟨0, _⟩ => exact i.isLt

/-- An edge spread over the samples. -/
def edgeArr (x : FVec Ideal S16 .f32) (i : Fin 16) : FVec Ideal S16384 .f32 :=
  broadcastInDim S16384 ![] bcast_S_S16384 (shapeCast S_ (extractStridedSlice S1 ![i.val] x (slices i)) shapeCasts_S1_S_)

/-- Every entry of a spread edge is the edge. -/
theorem edgeArr_apply (x : FVec Ideal S16 .f32) (i : Fin 16) (n : Fin 16384) : edgeArr x i (at1 n) = x (at1 i) := by
  unfold edgeArr
  exact edge_read i.val i.isLt (slices i) shapeCasts_S1_S_ bcast_S_S16384 x (at1 n)

/-- The gap of a bin as a list of one entry. -/
def gapPiece (u e : FVec Ideal S16384 .f32) (x : FVec Ideal S16 .f32) (i : Fin 15) : FVec Ideal S1 .f32 :=
  broadcastInDim S1 ![] bcast_S_S1 (gapArr reducesTo_S16384_S_d0 h_S_ bcast_S_S16384
    (maskArr (lowOrder i.val) u (edgeArr x i.castSucc) (edgeArr x i.succ)) u e)

/-- Its entry is the gap between the bin's edges. -/
theorem gapPiece_apply (u e : FVec Ideal S16384 .f32) (x : FVec Ideal S16 .f32) (i : Fin 15) (j : S1.Idx) :
    gapPiece u e x i j = gapOf (lowOrder i.val) (x (at1 i.castSucc)) (x (at1 i.succ)) (fun n => u (at1 n)) (fun n => e (at1 n)) := by
  unfold gapPiece
  rw [ValueIdx.broadcastInDim_scalar_apply]
  exact gapArr_apply _ _ _ _ u e _ _ _ _ (edgeArr_apply x i.castSucc) (edgeArr_apply x i.succ) _

/-- The fifteen gaps. -/
def gaps (u e : FVec Ideal S16384 .f32) (x : FVec Ideal S16 .f32) : FVec Ideal S15 .f32 :=
  concatenate S15 0 (List.ofFn fun i : Fin 15 => (⟨S1, gapPiece u e x i⟩ : (s : Shape) × (s.Idx → EReal)))
    concatenates_S1_S1_S1_S1_S1_S1_S1_S1_S1_S1_S1_S1_S1_S1_S1_S15_d0

/-- The gap of bin `i` is the gap between edges `i` and `i + 1`. -/
theorem gaps_apply (u e : FVec Ideal S16384 .f32) (x : FVec Ideal S16 .f32) (i : Fin 15) :
    gaps u e x (at1 i) = gapOf (lowOrder i.val) (x (at1 i.castSucc)) (x (at1 i.succ)) (fun n => u (at1 n)) (fun n => e (at1 n)) := by
  unfold gaps
  refine (concatenate_ofFn_unit_apply (t := S15) (s₁ := S1) 0 (gapPiece u e x) _ rfl rfl (at1 i) i rfl (at1 (0 : Fin 1))
    (fun b hb => absurd (Fin.ext (by have := b.isLt; change b.val < 1 at this; show b.val = 0; omega)) hb)).trans ?_
  exact gapPiece_apply u e x i _

/-- The fifteen gaps, written out. -/
theorem gaps_list (u e : FVec Ideal S16384 .f32) (x : FVec Ideal S16 .f32) :
    gaps u e x = concatenate S15 0 [⟨S1, gapPiece u e x 0⟩, ⟨S1, gapPiece u e x 1⟩, ⟨S1, gapPiece u e x 2⟩, ⟨S1, gapPiece u e x 3⟩, ⟨S1, gapPiece u e x 4⟩, ⟨S1, gapPiece u e x 5⟩, ⟨S1, gapPiece u e x 6⟩, ⟨S1, gapPiece u e x 7⟩, ⟨S1, gapPiece u e x 8⟩, ⟨S1, gapPiece u e x 9⟩, ⟨S1, gapPiece u e x 10⟩, ⟨S1, gapPiece u e x 11⟩, ⟨S1, gapPiece u e x 12⟩, ⟨S1, gapPiece u e x 13⟩, ⟨S1, gapPiece u e x 14⟩]
      concatenates_S1_S1_S1_S1_S1_S1_S1_S1_S1_S1_S1_S1_S1_S1_S1_S15_d0 := rfl

variable (V0 : Valuation τ sig (Elt Ideal))

/-- The reference's list of gaps is that list. -/
theorem gaps_eq : res_main_v408 V0 = gaps (res_main_v20 V0) (res_main_v37 V0) (res_main_v62 V0) := by
  delta res_main_v408
  delta res_main_v71 res_main_v73 res_main_v74 res_main_v93 res_main_v95 res_main_v96 res_main_v115 res_main_v117 res_main_v118 res_main_v137 res_main_v139 res_main_v140 res_main_v159 res_main_v161 res_main_v162 res_main_v181 res_main_v183 res_main_v184 res_main_v203 res_main_v205 res_main_v206 res_main_v225 res_main_v227 res_main_v228 res_main_v247 res_main_v249 res_main_v250 res_main_v269 res_main_v271 res_main_v272 res_main_v291 res_main_v293 res_main_v294 res_main_v313 res_main_v315 res_main_v316 res_main_v335 res_main_v337 res_main_v338 res_main_v357 res_main_v359 res_main_v360 res_main_v379 res_main_v381 res_main_v382
  generalize res_main_v20 V0 = u
  generalize res_main_v37 V0 = e
  generalize res_main_v62 V0 = x
  rw [gaps_list]
  rfl

/-- The reference's result. -/
def result : FVec Ideal S_ .f32 :=
  Host.divf (Host.reduceAdd (res_main_v408 V0) (constant S_ .f32 0x00000000#32) reducesTo_S15_S_d0 h_S_) (constant S_ .f32 0x41700000#32)

/-- The reference's result is the fifteenth part of the total of the gaps between its edges. -/
theorem result_apply (z : S_.Idx) : result V0 z = Ideal.div (∑ i ∈ Finset.range 15,
      gapOf (lowOrder i) (edgeOf (fun n => sorted V0 (at1 n)) i) (edgeOf (fun n => sorted V0 (at1 n)) (i + 1))
        (fun n => entropyList V0 (at1 n)) (fun n => errorList V0 (at1 n))) (Ideal.ofBits .f32 0x41700000#32) := by
  have form : ∀ a : FVec Ideal S_ .f32, Host.divf a (constant S_ .f32 0x41700000#32) z = Ideal.div (a z) (Ideal.ofBits .f32 0x41700000#32) :=
    fun _ => rfl
  unfold result
  rw [form, gaps_eq, entropyList_eq, errorList_eq, edges_eq,
    sum_list h_S_ (fun b => b.elim0) reducesTo_S15_S_d0 (gaps (entropyList V0) (errorList V0) (edges V0)) z, Finset.sum_range]
  rw [Finset.sum_congr rfl fun i _ => gaps_apply (entropyList V0) (errorList V0) (edges V0) i]
  rw [Finset.sum_congr rfl fun i _ => by rw [edges_apply, edges_apply]]
  rfl

end Cert.ReferenceIdeal.Hand

end
-- ==== Proof.Inputs.lean ====
module

public import proofs.«01_k».proof.Pre_inputs_ok
public import proofs.«01_k».proof.Proof.Rows
public import proofs.«01_k».proof.Proof.Tiles
public import Idealize.ShloMosaic.Lib.ReduceAll
public import Idealize.ShloMosaic.Lib.Affine

@[expose] public section

set_option maxRecDepth 16384

/-!
The precondition at one sample: its greatest score is finite and its label names a class.
-/

noncomputable section

namespace Cert.Pre_inputs_ok.Hand

open Idealize.ShloMosaic
open Cert.Sample Cert.Rows
open Cert.KernelIdeal.Hand (sampleScores)

variable [Cert.Pre_inputs_ok.Facts]
open Cert.Pre_inputs_ok Cert.Pre_inputs_ok.Facts

/-- The float32 word of infinity is infinity. -/
theorem ofBits_top : Ideal.ofBits .f32 0x7F800000#32 = (⊤ : EReal) := by
  simp [Ideal.ofBits, Ideal.ieee]

/-- The first half of the precondition, from an array of greatest scores. -/
def finite (x : FVec Ideal S16384 .f32) : IVec S16384 1 :=
  andi (cmpf .ogt x (broadcastInDim S16384 ![] bcast_S_S16384 (constant S_ .f32 0xFF800000#32)))
    (cmpf .olt x (broadcastInDim S16384 ![] bcast_S_S16384 (constant S_ .f32 0x7F800000#32)))

/-- The second half of the precondition. -/
def inRange (l : IVec S16384 32) : IVec S16384 1 :=
  andi (cmpi .sge l (broadcastInDim S16384 ![] bcast_S_S16384 (constantI S_ 32 0#32)))
    (cmpi .slt l (broadcastInDim S16384 ![] bcast_S_S16384 (constantI S_ 32 1000#32)))

/-- A bit is one where its truth value is true. -/
theorem bit_true (b : Bool) : BitVec.ofBool b = 1#1 ↔ b = true := by cases b <;> decide

/-- Where the first half holds, the entry is finite. -/
theorem finite_one (x : FVec Ideal S16384 .f32) (j : S16384.Idx) (h : finite x j = 1#1) : x j ≠ ⊥ ∧ x j ≠ ⊤ := by
  have h' : IntOp.andi (Ideal.cmp .ogt (x j) (Ideal.ofBits .f32 0xFF800000#32)) (Ideal.cmp .olt (x j) (Ideal.ofBits .f32 0x7F800000#32)) = 1#1 := h
  rw [ofBits_bot, ofBits_top, IntOp.andi_eq_one] at h'
  have h₁ : (BitVec.ofBool (decide ((⊥ : EReal) < x j))) = 1#1 := h'.1
  have h₂ : (BitVec.ofBool (decide (x j < (⊤ : EReal)))) = 1#1 := h'.2
  rw [bit_true, decide_eq_true_eq] at h₁ h₂
  exact ⟨ne_of_gt h₁, ne_of_lt h₂⟩

/-- Where the second half holds, the label names a class. -/
theorem inRange_one (l : IVec S16384 32) (j : S16384.Idx) (h : inRange l j = 1#1) : 0 ≤ (l j).toInt ∧ (l j).toInt < 1000 := by
  have h' : IntOp.andi (BitVec.ofBool ((0#32).sle (l j))) (BitVec.ofBool ((l j).slt 1000#32)) = 1#1 := h
  rw [IntOp.andi_eq_one, bit_true, bit_true, BitVec.sle_iff_toInt_le, BitVec.slt_iff_toInt_lt] at h'
  exact h'

/-- Reducing the logits' second axis leaves one entry per sample. -/
theorem reduces_rows : S16384x1000.Reduces [1] S16384 := by decide

/-- What the precondition says of one sample. -/
theorem sample_ok (L : FVec Ideal S16384x1000 .f32) (l : IVec S16384 32) (h : fn L l = fun _ => 1#1) (n : Fin 16384) :
    (top (sampleScores L n) ≠ ⊥ ∧ top (sampleScores L n) ≠ ⊤) ∧ 0 ≤ (l (at1 n)).toInt ∧ (l (at1 n)).toInt < 1000 := by
  have h₀ : IntOp.andi
      (Host.reduce IntOp.andi (finite (Host.reduce FloatOps.maximumf L (constant S_ .f32 0xFF800000#32) reducesTo_S16384x1000_S16384_d1 h_S_))
        (constantI S_ 1 1#1) reducesTo_S16384_S_d0 h_S_ ValueIdx.ix0)
      (Host.reduce IntOp.andi (inRange l) (constantI S_ 1 1#1) reducesTo_S16384_S_d0 h_S_ ValueIdx.ix0) = 1#1 :=
    congrFun h ValueIdx.ix0
  rw [IntOp.andi_eq_one] at h₀
  haveI : Subsingleton S_.Idx := ⟨fun a b => funext fun k => k.elim0⟩
  have h₁ := finite_one _ (at1 n) (Host.reduce_andi_all _ _ _ _ _ h₀.1 (at1 n))
  have h₂ := inRange_one l (at1 n) (Host.reduce_andi_all _ _ _ _ _ h₀.2 (at1 n))
  have hs : ∀ k : Fin 1000, L (at2 n k) = sampleScores L n k.val := fun k => by
    unfold sampleScores
    refine congrArg _ (funext fun a => ?_)
    match a with
    | ⟨0, _⟩ => rfl
    | ⟨1, _⟩ => exact Fin.ext (Nat.mod_eq_of_lt k.isLt).symm
  rw [rowMax_apply h_S_ reducesTo_S16384x1000_S16384_d1 reduces_rows L (sampleScores L n) n hs] at h₁
  exact ⟨h₁, h₂⟩

end Cert.Pre_inputs_ok.Hand

end
-- ==== Proof.Value.lean ====
module

public import proofs.«01_k».proof.Proof.Run
public import proofs.«01_k».proof.Proof.Tiles
public import proofs.«01_k».proof.Proof.Sort
public import proofs.«01_k».proof.Proof.Total
public import proofs.«01_k».proof.Proof.Inputs

@[expose] public section

set_option maxRecDepth 16384

/-!
The kernel's result is the reference's: the same entropies and errors of the samples, the same sorted list, and so the
same edges, the same fifteen gaps and the same total.
-/

noncomputable section

namespace Cert.Value

open Idealize.ShloMosaic Idealize.ShloMosaic.TcCoe
open Cert.Sample Cert.Rows Cert.Gaps
open Cert.KernelIdeal (nD τ sig main_arg0 main_arg1)
open Cert.KernelIdeal.Hand
open Cert.ReferenceIdeal.Hand

/-- The sorted list, as the sort of the entropies. -/
theorem sorted_apply (V0 : Valuation Cert.ReferenceIdeal.τ Cert.ReferenceIdeal.sig (Elt Ideal)) (n : Fin 16384) :
    sorted V0 (at1 n) = Host.sort ⟨1, ![16384]⟩ 0 (Cert.ReferenceIdeal.comparator_f32_d0 (F := Ideal)) (entropyList V0) (at1 n) := by
  unfold sorted Cert.ReferenceIdeal.Value.res_main_v43
  rw [entropyList_eq]

variable [Cert.Pre_inputs_ok.Facts] (m : (ℓ : Loc nD τ sig) → Buf (Elt Ideal) ℓ) (c : Dev nD)
  (V0 : Valuation Cert.ReferenceIdeal.τ Cert.ReferenceIdeal.sig (Elt Ideal))
  (hL : logits V0 = m ((c : Thread nD τ).loc main_arg0)) (hl : labels V0 = m ((c : Thread nD τ).loc main_arg1))
  (hpre : Cert.Pre_inputs_ok.fn (F := Ideal) (m ((c : Thread nD τ).loc main_arg0)) (m ((c : Thread nD τ).loc main_arg1)) = fun _ => 1#1)

include hL hl hpre

/-- What the precondition says of one sample, of the reference's arguments. -/
theorem sample_of_pre (n : Fin 16384) :
    (top (sampleScores (logits V0) n) ≠ ⊥ ∧ top (sampleScores (logits V0) n) ≠ ⊤)
      ∧ 0 ≤ (labels V0 (at1 n)).toInt ∧ (labels V0 (at1 n)).toInt < 1000 := by
  rw [← hL, ← hl] at hpre
  exact Cert.Pre_inputs_ok.Hand.sample_ok (logits V0) (labels V0) hpre n

/-- The entropies agree. -/
theorem entropies_agree (n : Fin 16384) : entropies m c (cellOf n) = entropyList V0 (at1 n) := by
  have h := sample_of_pre m c V0 hL hl hpre n
  rw [entropies_cellOf, ← hL, entropyList_apply]
  exact entropy_eq _ h.1.1 h.1.2

/-- The errors agree. -/
theorem errors_agree (n : Fin 16384) : errors m c (cellOf n) = errorList V0 (at1 n) := by
  have h := (sample_of_pre m c V0 hL hl hpre n).2
  rw [errors_cellOf, ← hL, ← hl, errorList_apply V0 n h.1 h.2]
  have e : ((labels V0 (at1 n)).toNat : ℤ) = (labels V0 (at1 n)).toInt := by
    have hw := (labels V0 (at1 n)).isLt
    have h₀ := h.1
    rw [BitVec.toInt_eq_toNat_cond] at h₀ ⊢
    split_ifs at h₀ ⊢ <;> omega
  exact error_eq _ (labels V0 (at1 n)).toNat (by have := h.2; omega)

/-- The results agree. -/
theorem results_agree (z : (⟨2, ![1, 1]⟩ : Shape).Idx) (y : (⟨0, ![]⟩ : Shape).Idx) :
    calibration (entropies m c) (errors m c) z = result V0 y := by
  rw [result_apply]
  refine calibration_apply (entropies m c) (errors m c) (fun n => entropyList V0 (at1 n)) (fun n => errorList V0 (at1 n))
    (entropies_agree m c V0 hL hl hpre) (errors_agree m c V0 hL hl hpre) (fun n => sorted V0 (at1 n)) (fun n => ?_) z
  rw [sorted_apply]
  exact sortUpTo_eq_sort _ _ comparator_eq (entropyList V0) (entropies_agree m c V0 hL hl hpre) n

/-- The results agree as arrays of one number. -/
theorem outputs_agree (h : (⟨2, ![1, 1]⟩ : Shape).ShapeCasts ⟨0, ![]⟩) :
    shapeCast ⟨0, ![]⟩ (calibration (entropies m c) (errors m c)) h = result V0 :=
  funext fun y => results_agree m c V0 hL hl hpre _ y

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_inputs_ok
public import Idealize.ShloMosaic.Adequacy
public import Idealize.ShloMosaic.Init
public import proofs.«01_k».proof.Proof.Gen.ReferenceIdeal.Run
public import Idealize.ShloMosaic.Lib.Claim
public import proofs.«01_k».proof.Proof.Run
public import proofs.«01_k».proof.Proof.Bits
public import proofs.«01_k».proof.Proof.Value

@[expose] public section

set_option maxRecDepth 16384

noncomputable section

namespace Cert.Proof

open Idealize.ShloMosaic Idealize.SL.Sem

/-- The reference's frame. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => (h c).2, Idealize.ShloMosaic.sem_eq_zero_of_no_sems (by decide) r.2⟩)
    (Cert.ReferenceIdeal.Value.run m ρ)

/-- The value: both programs end with one result, which the kernel's idealization reaches as the total of its bins. -/
theorem value : algebraic_KernelIdeal_ReferenceIdeal_pre_inputs_ok (hKernelIdeal := Cert.KernelIdeal.Gen.facts)
    (hReferenceIdeal := Cert.ReferenceIdeal.Gen.facts) (hPre_inputs_ok := Cert.Pre_inputs_ok.Gen.facts) := by
  intro m g m' g' hpre hagree
  refine ⟨fun c => shapeCast Cert.KernelIdeal.S_
      (Cert.KernelIdeal.Hand.calibration (Cert.KernelIdeal.Hand.entropies m c) (Cert.KernelIdeal.Hand.errors m c))
      Cert.KernelIdeal.Gen.shapeCasts_S1x1_S_, ?_, ?_⟩
  · refine (θ_run Cert.KernelIdeal.defs _ _).mono (fun r h c => ⟨?_, ?_, ?_⟩) (Cert.KernelIdeal.Hand.run_main_quiescent m g)
    · exact ((h.1 c).2 Cert.KernelIdeal.main_v3
        (Pipeline.mem_restRefs_of Cert.KernelIdeal.main_v3 (by decide) (by decide))).trans (Cert.KernelIdeal.Hand.tail_out m c)
    · exact ((h.1 c).2 Cert.KernelIdeal.main_arg0
        (Pipeline.mem_restRefs_of Cert.KernelIdeal.main_arg0 (by decide) (by decide))).trans (Cert.KernelIdeal.Gen.W_main_arg0 m _ c)
    · exact ((h.1 c).2 Cert.KernelIdeal.main_arg1
        (Pipeline.mem_restRefs_of Cert.KernelIdeal.main_arg1 (by decide) (by decide))).trans (Cert.KernelIdeal.Gen.W_main_arg1 m _ c)
  · refine (θ_run Cert.ReferenceIdeal.defs _ _).mono (fun r h c => ⟨(h c).1.trans ?_, (h c).2⟩) (Cert.ReferenceIdeal.Value.run m' g')
    exact (Cert.Value.outputs_agree m c (StableHlo.launchContents m' c) (hagree c).1 (hagree c).2 (hpre c) _).symm

/-- The claim. -/
theorem claim : Cert.Claim := ⟨Cert.Kernel.Gen.facts, Cert.KernelIdeal.Gen.facts, Cert.ReferenceIdeal.Gen.facts,
  Cert.Pre_inputs_ok.Gen.facts,
  fun m ρ _ => Cert.Kernel.Hand.frame_bits m ρ,
  fun m ρ _ => Cert.KernelIdeal.Hand.frame_ideal m ρ,
  fun m ρ _ => Cert.KernelIdeal.Hand.frame_ideal m ρ,
  fun m ρ _ => frame_reference m ρ,
  fun m ρ _ => frame_reference m ρ,
  IdealRules.named_const.statement Cert.KernelIdeal.κ "inv_ln2" .f32 0x3FB8AA3B#32 (((Real.log 2)⁻¹ : ℝ) : EReal) rfl,
  value⟩

end Cert.Proof

end
